-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S100000x128 : Shape := ⟨2, ![100000, 128]⟩
abbrev S1x128 : Shape := ⟨2, ![1, 128]⟩
abbrev S6096x128 : Shape := ⟨2, ![6096, 128]⟩
abbrev S128 : Shape := ⟨1, ![128]⟩
abbrev S32x128 : Shape := ⟨2, ![32, 128]⟩
abbrev S320x128 : Shape := ⟨2, ![320, 128]⟩
abbrev S_ : Shape := ⟨0, ![]⟩
abbrev S16 : Shape := ⟨1, ![16]⟩
abbrev S1x16 : Shape := ⟨2, ![1, 16]⟩
abbrev S128x1 : Shape := ⟨2, ![128, 1]⟩

abbrev nBuf : Table → Nat
  | .hbm => 8
  | .local .tc .vmem => 11
  | .local .scVector .vmem => 5
  | _ => 0

abbrev bufTy : (tb : Table) → Fin (nBuf tb) → BufTy
  | .hbm, ⟨0, _⟩ => ⟨S128x100000, .f32⟩
  | .hbm, ⟨1, _⟩ => ⟨S100000x128, .f32⟩
  | .hbm, ⟨2, _⟩ => ⟨S1x128, .f32⟩
  | .hbm, ⟨3, _⟩ => ⟨S1x128, .i32⟩
  | .hbm, ⟨4, _⟩ => ⟨S32x128, .f32⟩
  | .hbm, ⟨5, _⟩ => ⟨S32x128, .i32⟩
  | .hbm, ⟨6, _⟩ => ⟨S1x128, .i32⟩
  | .hbm, ⟨7, _⟩ => ⟨S128x1, .i32⟩
  | .local .tc .vmem, ⟨0, _⟩ => ⟨S6096x128, .f32⟩
  | .local .tc .vmem, ⟨1, _⟩ => ⟨S6096x128, .f32⟩
  | .local .tc .vmem, ⟨2, _⟩ => ⟨S1x128, .f32⟩
  | .local .tc .vmem, ⟨3, _⟩ => ⟨S1x128, .i32⟩
  | .local .tc .vmem, ⟨4, _⟩ => ⟨S1x128, .f32⟩
  | .local .tc .vmem, ⟨5, _⟩ => ⟨S1x128, .i32⟩
  | .local .tc .vmem, ⟨6, _⟩ => ⟨S1x128, .f32⟩
  | .local .tc .vmem, ⟨7, _⟩ => ⟨S1x128, .i32⟩
  | .local .tc .vmem, ⟨8, _⟩ => ⟨S32x128, .f32⟩
  | .local .tc .vmem, ⟨9, _⟩ => ⟨S32x128, .i32⟩
  | .local .tc .vmem, ⟨10, _⟩ => ⟨S1x128, .i32⟩
  | .local .scVector .vmem, ⟨0, _⟩ => ⟨S320x128, .f32⟩
  | .local .scVector .vmem, ⟨1, _⟩ => ⟨S320x128, .f32⟩
  | .local .scVector .vmem, ⟨2, _⟩ => ⟨S32x128, .f32⟩
  | .local .scVector .vmem, ⟨3, _⟩ => ⟨S128, .f32⟩
  | .local .scVector .vmem, ⟨4, _⟩ => ⟨S128, .i32⟩
  | _, _ => ⟨S128x100000, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 1, rfl⟩
abbrev main_v2_0_scv : Ref sig .scVector := ⟨.hbm, 4, rfl⟩
abbrev main_v2_1_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc2_sem0_0 : DmaSem sig := 9
abbrev cc2_sem1_0 : DmaSem sig := 10
abbrev cc2_sem2_0 : DmaSem sig := 11
abbrev cc2_sem3_0 : DmaSem sig := 12
abbrev cc2_sem4_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v20 : BitVec 1 := Scalar.cmpi .eq arg0 c7_i32
  let v21 : BitVec 32 := Scalar.extui v20
  let c0_i32_5 : BitVec 32 := 0#32
  let v22 : BitVec 1 := Scalar.cmpi .ne v21 c0_i32_5
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 16], ![false, false]⟩

def k1_mult1 (i : grid1.Coords) : BitVec 32 :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  v3
def k1_mult2 (i : grid1.Coords) : BitVec 32 :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  let v4 : BitVec 32 := v3
  let c0_i32 : BitVec 32 := 0#32
  let v5 : BitVec 32 := Scalar.addi v4 c0_i32
  v5
def k1_off1 (i : grid1.Coords) (c0_i32 : BitVec 32) : Fin 2 → Nat :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  let v4 : BitVec 32 := v3
  let v5 : BitVec 32 := Scalar.addi v4 c0_i32
  let v6 : BitVec 32 := v5
  let c0_i32_0 : BitVec 32 := 0#32
  ![v6.toNat, 0]
def k1_mult3 (i : grid1.Coords) : BitVec 32 :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  let v4 : BitVec 32 := v3
  let c320_i32 : BitVec 32 := 320#32
  let v9 : BitVec 32 := Scalar.addi v4 c320_i32
  v9
def k1_mult4 (i : grid1.Coords) : BitVec 32 :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  let v4 : BitVec 32 := v3
  let c0_i32_22 : BitVec 32 := 0#32
  let v31 : BitVec 32 := Scalar.addi v4 c0_i32_22
  v31
@[reducible] def k1_t1_loop : Scf.Loop 32 :=
  let c0_i32_26 : BitVec 32 := 0#32
  let c320_i32_27 : BitVec 32 := 320#32
  let v36 : BitVec 32 := Scalar.addi c0_i32_26 c320_i32_27
  let c1_i32 : BitVec 32 := 1#32
  ⟨c0_i32_26, v36, c1_i32⟩
def k1_off2 (k1_t1 : Fin k1_t1_loop.trips) : Fin 2 → Nat :=
  let c0_i32_26 : BitVec 32 := 0#32
  let c1_i32 : BitVec 32 := 1#32
  let arg13 : BitVec 32 := Scf.iv c0_i32_26 c1_i32 k1_t1
  let v132 : Index := Scalar.indexCast arg13
  let c0_83 : Index := 0#32
  ![v132.toNat, 0]
def k1_off3 (k1_t1 : Fin k1_t1_loop.trips) : Fin 2 → Nat :=
  let c0_i32_26 : BitVec 32 := 0#32
  let c1_i32 : BitVec 32 := 1#32
  let arg13 : BitVec 32 := Scf.iv c0_i32_26 c1_i32 k1_t1
  let v138 : Index := Scalar.indexCast arg13
  let c16_84 : Index := 16#32
  ![v138.toNat, 16]
def k1_off4 (k1_t1 : Fin k1_t1_loop.trips) : Fin 2 → Nat :=
  let c0_i32_26 : BitVec 32 := 0#32
  let c1_i32 : BitVec 32 := 1#32
  let arg13 : BitVec 32 := Scf.iv c0_i32_26 c1_i32 k1_t1
  let v144 : Index := Scalar.indexCast arg13
  let c32_85 : Index := 32#32
  ![v144.toNat, 32]
def k1_off5 (k1_t1 : Fin k1_t1_loop.trips) : Fin 2 → Nat :=
  let c0_i32_26 : BitVec 32 := 0#32
  let c1_i32 : BitVec 32 := 1#32
  let arg13 : BitVec 32 := Scf.iv c0_i32_26 c1_i32 k1_t1
  let v150 : Index := Scalar.indexCast arg13
  let c48_86 : Index := 48#32
  ![v150.toNat, 48]
def k1_off6 (k1_t1 : Fin k1_t1_loop.trips) : Fin 2 → Nat :=
  let c0_i32_26 : BitVec 32 := 0#32
  let c1_i32 : BitVec 32 := 1#32
  let arg13 : BitVec 32 := Scf.iv c0_i32_26 c1_i32 k1_t1
  let v156 : Index := Scalar.indexCast arg13
  let c64_87 : Index := 64#32
  ![v156.toNat, 64]
def k1_off7 (k1_t1 : Fin k1_t1_loop.trips) : Fin 2 → Nat :=
  let c0_i32_26 : BitVec 32 := 0#32
  let c1_i32 : BitVec 32 := 1#32
  let arg13 : BitVec 32 := Scf.iv c0_i32_26 c1_i32 k1_t1
  let v162 : Index := Scalar.indexCast arg13
  let c80_88 : Index := 80#32
  ![v162.toNat, 80]
def k1_off8 (k1_t1 : Fin k1_t1_loop.trips) : Fin 2 → Nat :=
  let c0_i32_26 : BitVec 32 := 0#32
  let c1_i32 : BitVec 32 := 1#32
  let arg13 : BitVec 32 := Scf.iv c0_i32_26 c1_i32 k1_t1
  let v168 : Index := Scalar.indexCast arg13
  let c96_89 : Index := 96#32
  ![v168.toNat, 96]
def k1_off9 (k1_t1 : Fin k1_t1_loop.trips) : Fin 2 → Nat :=
  let c0_i32_26 : BitVec 32 := 0#32
  let c1_i32 : BitVec 32 := 1#32
  let arg13 : BitVec 32 := Scf.iv c0_i32_26 c1_i32 k1_t1
  let v174 : Index := Scalar.indexCast arg13
  let c112_90 : Index := 112#32
  ![v174.toNat, 112]
def k1_mult5 (i : grid1.Coords) : BitVec 32 :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  let v4 : BitVec 32 := v3
  let c640_i32 : BitVec 32 := 640#32
  let v38 : BitVec 32 := Scalar.addi v4 c640_i32
  v38
def k1_mult6 (i : grid1.Coords) : BitVec 32 :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  let v4 : BitVec 32 := v3
  let c320_i32_31 : BitVec 32 := 320#32
  let v42 : BitVec 32 := Scalar.addi v4 c320_i32_31
  v42
@[reducible] def k1_t2_loop : Scf.Loop 32 :=
  let c0_i32_35 : BitVec 32 := 0#32
  let c320_i32_36 : BitVec 32 := 320#32
  let v47 : BitVec 32 := Scalar.addi c0_i32_35 c320_i32_36
  let c1_i32_37 : BitVec 32 := 1#32
  ⟨c0_i32_35, v47, c1_i32_37⟩
def k1_off10 (k1_t2 : Fin k1_t2_loop.trips) : Fin 2 → Nat :=
  let c0_i32_35 : BitVec 32 := 0#32
  let c1_i32_37 : BitVec 32 := 1#32
  let arg13 : BitVec 32 := Scf.iv c0_i32_35 c1_i32_37 k1_t2
  let v132 : Index := Scalar.indexCast arg13
  let c0_83 : Index := 0#32
  ![v132.toNat, 0]
def k1_off11 (k1_t2 : Fin k1_t2_loop.trips) : Fin 2 → Nat :=
  let c0_i32_35 : BitVec 32 := 0#32
  let c1_i32_37 : BitVec 32 := 1#32
  let arg13 : BitVec 32 := Scf.iv c0_i32_35 c1_i32_37 k1_t2
  let v138 : Index := Scalar.indexCast arg13
  let c16_84 : Index := 16#32
  ![v138.toNat, 16]
def k1_off12 (k1_t2 : Fin k1_t2_loop.trips) : Fin 2 → Nat :=
  let c0_i32_35 : BitVec 32 := 0#32
  let c1_i32_37 : BitVec 32 := 1#32
  let arg13 : BitVec 32 := Scf.iv c0_i32_35 c1_i32_37 k1_t2
  let v144 : Index := Scalar.indexCast arg13
  let c32_85 : Index := 32#32
  ![v144.toNat, 32]
def k1_off13 (k1_t2 : Fin k1_t2_loop.trips) : Fin 2 → Nat :=
  let c0_i32_35 : BitVec 32 := 0#32
  let c1_i32_37 : BitVec 32 := 1#32
  let arg13 : BitVec 32 := Scf.iv c0_i32_35 c1_i32_37 k1_t2
  let v150 : Index := Scalar.indexCast arg13
  let c48_86 : Index := 48#32
  ![v150.toNat, 48]
def k1_off14 (k1_t2 : Fin k1_t2_loop.trips) : Fin 2 → Nat :=
  let c0_i32_35 : BitVec 32 := 0#32
  let c1_i32_37 : BitVec 32 := 1#32
  let arg13 : BitVec 32 := Scf.iv c0_i32_35 c1_i32_37 k1_t2
  let v156 : Index := Scalar.indexCast arg13
  let c64_87 : Index := 64#32
  ![v156.toNat, 64]
def k1_off15 (k1_t2 : Fin k1_t2_loop.trips) : Fin 2 → Nat :=
  let c0_i32_35 : BitVec 32 := 0#32
  let c1_i32_37 : BitVec 32 := 1#32
  let arg13 : BitVec 32 := Scf.iv c0_i32_35 c1_i32_37 k1_t2
  let v162 : Index := Scalar.indexCast arg13
  let c80_88 : Index := 80#32
  ![v162.toNat, 80]
def k1_off16 (k1_t2 : Fin k1_t2_loop.trips) : Fin 2 → Nat :=
  let c0_i32_35 : BitVec 32 := 0#32
  let c1_i32_37 : BitVec 32 := 1#32
  let arg13 : BitVec 32 := Scf.iv c0_i32_35 c1_i32_37 k1_t2
  let v168 : Index := Scalar.indexCast arg13
  let c96_89 : Index := 96#32
  ![v168.toNat, 96]
def k1_off17 (k1_t2 : Fin k1_t2_loop.trips) : Fin 2 → Nat :=
  let c0_i32_35 : BitVec 32 := 0#32
  let c1_i32_37 : BitVec 32 := 1#32
  let arg13 : BitVec 32 := Scf.iv c0_i32_35 c1_i32_37 k1_t2
  let v174 : Index := Scalar.indexCast arg13
  let c112_90 : Index := 112#32
  ![v174.toNat, 112]
def k1_mult7 (i : grid1.Coords) : BitVec 32 :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  let v4 : BitVec 32 := v3
  let c960_i32 : BitVec 32 := 960#32
  let v49 : BitVec 32 := Scalar.addi v4 c960_i32
  v49
def k1_mult8 (i : grid1.Coords) : BitVec 32 :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  let v4 : BitVec 32 := v3
  let c640_i32_41 : BitVec 32 := 640#32
  let v53 : BitVec 32 := Scalar.addi v4 c640_i32_41
  v53
@[reducible] def k1_t3_loop : Scf.Loop 32 :=
  let c0_i32_45 : BitVec 32 := 0#32
  let c320_i32_46 : BitVec 32 := 320#32
  let v58 : BitVec 32 := Scalar.addi c0_i32_45 c320_i32_46
  let c1_i32_47 : BitVec 32 := 1#32
  ⟨c0_i32_45, v58, c1_i32_47⟩
def k1_off18 (k1_t3 : Fin k1_t3_loop.trips) : Fin 2 → Nat :=
  let c0_i32_45 : BitVec 32 := 0#32
  let c1_i32_47 : BitVec 32 := 1#32
  let arg13 : BitVec 32 := Scf.iv c0_i32_45 c1_i32_47 k1_t3
  let v132 : Index := Scalar.indexCast arg13
  let c0_83 : Index := 0#32
  ![v132.toNat, 0]
def k1_off19 (k1_t3 : Fin k1_t3_loop.trips) : Fin 2 → Nat :=
  let c0_i32_45 : BitVec 32 := 0#32
  let c1_i32_47 : BitVec 32 := 1#32
  let arg13 : BitVec 32 := Scf.iv c0_i32_45 c1_i32_47 k1_t3
  let v138 : Index := Scalar.indexCast arg13
  let c16_84 : Index := 16#32
  ![v138.toNat, 16]
def k1_off20 (k1_t3 : Fin k1_t3_loop.trips) : Fin 2 → Nat :=
  let c0_i32_45 : BitVec 32 := 0#32
  let c1_i32_47 : BitVec 32 := 1#32
  let arg13 : BitVec 32 := Scf.iv c0_i32_45 c1_i32_47 k1_t3
  let v144 : Index := Scalar.indexCast arg13
  let c32_85 : Index := 32#32
  ![v144.toNat, 32]
def k1_off21 (k1_t3 : Fin k1_t3_loop.trips) : Fin 2 → Nat :=
  let c0_i32_45 : BitVec 32 := 0#32
  let c1_i32_47 : BitVec 32 := 1#32
  let arg13 : BitVec 32 := Scf.iv c0_i32_45 c1_i32_47 k1_t3
  let v150 : Index := Scalar.indexCast arg13
  let c48_86 : Index := 48#32
  ![v150.toNat, 48]
def k1_off22 (k1_t3 : Fin k1_t3_loop.trips) : Fin 2 → Nat :=
  let c0_i32_45 : BitVec 32 := 0#32
  let c1_i32_47 : BitVec 32 := 1#32
  let arg13 : BitVec 32 := Scf.iv c0_i32_45 c1_i32_47 k1_t3
  let v156 : Index := Scalar.indexCast arg13
  let c64_87 : Index := 64#32
  ![v156.toNat, 64]
def k1_off23 (k1_t3 : Fin k1_t3_loop.trips) : Fin 2 → Nat :=
  let c0_i32_45 : BitVec 32 := 0#32
  let c1_i32_47 : BitVec 32 := 1#32
  let arg13 : BitVec 32 := Scf.iv c0_i32_45 c1_i32_47 k1_t3
  let v162 : Index := Scalar.indexCast arg13
  let c80_88 : Index := 80#32
  ![v162.toNat, 80]
def k1_off24 (k1_t3 : Fin k1_t3_loop.trips) : Fin 2 → Nat :=
  let c0_i32_45 : BitVec 32 := 0#32
  let c1_i32_47 : BitVec 32 := 1#32
  let arg13 : BitVec 32 := Scf.iv c0_i32_45 c1_i32_47 k1_t3
  let v168 : Index := Scalar.indexCast arg13
  let c96_89 : Index := 96#32
  ![v168.toNat, 96]
def k1_off25 (k1_t3 : Fin k1_t3_loop.trips) : Fin 2 → Nat :=
  let c0_i32_45 : BitVec 32 := 0#32
  let c1_i32_47 : BitVec 32 := 1#32
  let arg13 : BitVec 32 := Scf.iv c0_i32_45 c1_i32_47 k1_t3
  let v174 : Index := Scalar.indexCast arg13
  let c112_90 : Index := 112#32
  ![v174.toNat, 112]
def k1_mult9 (i : grid1.Coords) : BitVec 32 :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  let v4 : BitVec 32 := v3
  let c1280_i32 : BitVec 32 := 1280#32
  let v60 : BitVec 32 := Scalar.addi v4 c1280_i32
  v60
def k1_mult10 (i : grid1.Coords) : BitVec 32 :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  let v4 : BitVec 32 := v3
  let c960_i32_51 : BitVec 32 := 960#32
  let v64 : BitVec 32 := Scalar.addi v4 c960_i32_51
  v64
@[reducible] def k1_t4_loop : Scf.Loop 32 :=
  let c0_i32_55 : BitVec 32 := 0#32
  let c320_i32_56 : BitVec 32 := 320#32
  let v69 : BitVec 32 := Scalar.addi c0_i32_55 c320_i32_56
  let c1_i32_57 : BitVec 32 := 1#32
  ⟨c0_i32_55, v69, c1_i32_57⟩
def k1_off26 (k1_t4 : Fin k1_t4_loop.trips) : Fin 2 → Nat :=
  let c0_i32_55 : BitVec 32 := 0#32
  let c1_i32_57 : BitVec 32 := 1#32
  let arg13 : BitVec 32 := Scf.iv c0_i32_55 c1_i32_57 k1_t4
  let v132 : Index := Scalar.indexCast arg13
  let c0_83 : Index := 0#32
  ![v132.toNat, 0]
def k1_off27 (k1_t4 : Fin k1_t4_loop.trips) : Fin 2 → Nat :=
  let c0_i32_55 : BitVec 32 := 0#32
  let c1_i32_57 : BitVec 32 := 1#32
  let arg13 : BitVec 32 := Scf.iv c0_i32_55 c1_i32_57 k1_t4
  let v138 : Index := Scalar.indexCast arg13
  let c16_84 : Index := 16#32
  ![v138.toNat, 16]
def k1_off28 (k1_t4 : Fin k1_t4_loop.trips) : Fin 2 → Nat :=
  let c0_i32_55 : BitVec 32 := 0#32
  let c1_i32_57 : BitVec 32 := 1#32
  let arg13 : BitVec 32 := Scf.iv c0_i32_55 c1_i32_57 k1_t4
  let v144 : Index := Scalar.indexCast arg13
  let c32_85 : Index := 32#32
  ![v144.toNat, 32]
def k1_off29 (k1_t4 : Fin k1_t4_loop.trips) : Fin 2 → Nat :=
  let c0_i32_55 : BitVec 32 := 0#32
  let c1_i32_57 : BitVec 32 := 1#32
  let arg13 : BitVec 32 := Scf.iv c0_i32_55 c1_i32_57 k1_t4
  let v150 : Index := Scalar.indexCast arg13
  let c48_86 : Index := 48#32
  ![v150.toNat, 48]
def k1_off30 (k1_t4 : Fin k1_t4_loop.trips) : Fin 2 → Nat :=
  let c0_i32_55 : BitVec 32 := 0#32
  let c1_i32_57 : BitVec 32 := 1#32
  let arg13 : BitVec 32 := Scf.iv c0_i32_55 c1_i32_57 k1_t4
  let v156 : Index := Scalar.indexCast arg13
  let c64_87 : Index := 64#32
  ![v156.toNat, 64]
def k1_off31 (k1_t4 : Fin k1_t4_loop.trips) : Fin 2 → Nat :=
  let c0_i32_55 : BitVec 32 := 0#32
  let c1_i32_57 : BitVec 32 := 1#32
  let arg13 : BitVec 32 := Scf.iv c0_i32_55 c1_i32_57 k1_t4
  let v162 : Index := Scalar.indexCast arg13
  let c80_88 : Index := 80#32
  ![v162.toNat, 80]
def k1_off32 (k1_t4 : Fin k1_t4_loop.trips) : Fin 2 → Nat :=
  let c0_i32_55 : BitVec 32 := 0#32
  let c1_i32_57 : BitVec 32 := 1#32
  let arg13 : BitVec 32 := Scf.iv c0_i32_55 c1_i32_57 k1_t4
  let v168 : Index := Scalar.indexCast arg13
  let c96_89 : Index := 96#32
  ![v168.toNat, 96]
def k1_off33 (k1_t4 : Fin k1_t4_loop.trips) : Fin 2 → Nat :=
  let c0_i32_55 : BitVec 32 := 0#32
  let c1_i32_57 : BitVec 32 := 1#32
  let arg13 : BitVec 32 := Scf.iv c0_i32_55 c1_i32_57 k1_t4
  let v174 : Index := Scalar.indexCast arg13
  let c112_90 : Index := 112#32
  ![v174.toNat, 112]
def k1_mult11 (i : grid1.Coords) : BitVec 32 :=
  let c48768_i32 : BitVec 32 := 48768#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1600_i32 : BitVec 32 := 1600#32
  let v2 : BitVec 32 := Scalar.muli v1 c1600_i32
  let v3 : BitVec 32 := Scalar.addi c48768_i32 v2
  let v4 : BitVec 32 := v3
  let c1280_i32_59 : BitVec 32 := 1280#32
  let v71 : BitVec 32 := Scalar.addi v4 c1280_i32_59
  v71
@[reducible] def k1_t5_loop : Scf.Loop 32 :=
  let c0_i32_63 : BitVec 32 := 0#32
  let c320_i32_64 : BitVec 32 := 320#32
  let v76 : BitVec 32 := Scalar.addi c0_i32_63 c320_i32_64
  let c1_i32_65 : BitVec 32 := 1#32
  ⟨c0_i32_63, v76, c1_i32_65⟩
def k1_off34 (k1_t5 : Fin k1_t5_loop.trips) : Fin 2 → Nat :=
  let c0_i32_63 : BitVec 32 := 0#32
  let c1_i32_65 : BitVec 32 := 1#32
  let arg13 : BitVec 32 := Scf.iv c0_i32_63 c1_i32_65 k1_t5
  let v132 : Index := Scalar.indexCast arg13
  let c0_83 : Index := 0#32
  ![v132.toNat, 0]
def k1_off35 (k1_t5 : Fin k1_t5_loop.trips) : Fin 2 → Nat :=
  let c0_i32_63 : BitVec 32 := 0#32
  let c1_i32_65 : BitVec 32 := 1#32
  let arg13 : BitVec 32 := Scf.iv c0_i32_63 c1_i32_65 k1_t5
  let v138 : Index := Scalar.indexCast arg13
  let c16_84 : Index := 16#32
  ![v138.toNat, 16]
def k1_off36 (k1_t5 : Fin k1_t5_loop.trips) : Fin 2 → Nat :=
  let c0_i32_63 : BitVec 32 := 0#32
  let c1_i32_65 : BitVec 32 := 1#32
  let arg13 : BitVec 32 := Scf.iv c0_i32_63 c1_i32_65 k1_t5
  let v144 : Index := Scalar.indexCast arg13
  let c32_85 : Index := 32#32
  ![v144.toNat, 32]
def k1_off37 (k1_t5 : Fin k1_t5_loop.trips) : Fin 2 → Nat :=
  let c0_i32_63 : BitVec 32 := 0#32
  let c1_i32_65 : BitVec 32 := 1#32
  let arg13 : BitVec 32 := Scf.iv c0_i32_63 c1_i32_65 k1_t5
  let v150 : Index := Scalar.indexCast arg13
  let c48_86 : Index := 48#32
  ![v150.toNat, 48]
def k1_off38 (k1_t5 : Fin k1_t5_loop.trips) : Fin 2 → Nat :=
  let c0_i32_63 : BitVec 32 := 0#32
  let c1_i32_65 : BitVec 32 := 1#32
  let arg13 : BitVec 32 := Scf.iv c0_i32_63 c1_i32_65 k1_t5
  let v156 : Index := Scalar.indexCast arg13
  let c64_87 : Index := 64#32
  ![v156.toNat, 64]
def k1_off39 (k1_t5 : Fin k1_t5_loop.trips) : Fin 2 → Nat :=
  let c0_i32_63 : BitVec 32 := 0#32
  let c1_i32_65 : BitVec 32 := 1#32
  let arg13 : BitVec 32 := Scf.iv c0_i32_63 c1_i32_65 k1_t5
  let v162 : Index := Scalar.indexCast arg13
  let c80_88 : Index := 80#32
  ![v162.toNat, 80]
def k1_off40 (k1_t5 : Fin k1_t5_loop.trips) : Fin 2 → Nat :=
  let c0_i32_63 : BitVec 32 := 0#32
  let c1_i32_65 : BitVec 32 := 1#32
  let arg13 : BitVec 32 := Scf.iv c0_i32_63 c1_i32_65 k1_t5
  let v168 : Index := Scalar.indexCast arg13
  let c96_89 : Index := 96#32
  ![v168.toNat, 96]
def k1_off41 (k1_t5 : Fin k1_t5_loop.trips) : Fin 2 → Nat :=
  let c0_i32_63 : BitVec 32 := 0#32
  let c1_i32_65 : BitVec 32 := 1#32
  let arg13 : BitVec 32 := Scf.iv c0_i32_63 c1_i32_65 k1_t5
  let v174 : Index := Scalar.indexCast arg13
  let c112_90 : Index := 112#32
  ![v174.toNat, 112]
@[reducible] def k1_t6_loop : Scf.Loop 32 :=
  let c0_i32_72 : BitVec 32 := 0#32
  let c32_i32 : BitVec 32 := 32#32
  let v80 : BitVec 32 := Scalar.addi c0_i32_72 c32_i32
  let c1_i32_73 : BitVec 32 := 1#32
  ⟨c0_i32_72, v80, c1_i32_73⟩
def k1_off42 (k1_t6 : Fin k1_t6_loop.trips) : Fin 2 → Nat :=
  let c0_i32_72 : BitVec 32 := 0#32
  let c1_i32_73 : BitVec 32 := 1#32
  let arg13 : BitVec 32 := Scf.iv c0_i32_72 c1_i32_73 k1_t6
  let v132 : Index := Scalar.indexCast arg13
  let c0_83 : Index := 0#32
  ![v132.toNat, 0]
def k1_off43 (k1_t6 : Fin k1_t6_loop.trips) : Fin 2 → Nat :=
  let c0_i32_72 : BitVec 32 := 0#32
  let c1_i32_73 : BitVec 32 := 1#32
  let arg13 : BitVec 32 := Scf.iv c0_i32_72 c1_i32_73 k1_t6
  let v138 : Index := Scalar.indexCast arg13
  let c16_84 : Index := 16#32
  ![v138.toNat, 16]
def k1_off44 (k1_t6 : Fin k1_t6_loop.trips) : Fin 2 → Nat :=
  let c0_i32_72 : BitVec 32 := 0#32
  let c1_i32_73 : BitVec 32 := 1#32
  let arg13 : BitVec 32 := Scf.iv c0_i32_72 c1_i32_73 k1_t6
  let v144 : Index := Scalar.indexCast arg13
  let c32_85 : Index := 32#32
  ![v144.toNat, 32]
def k1_off45 (k1_t6 : Fin k1_t6_loop.trips) : Fin 2 → Nat :=
  let c0_i32_72 : BitVec 32 := 0#32
  let c1_i32_73 : BitVec 32 := 1#32
  let arg13 : BitVec 32 := Scf.iv c0_i32_72 c1_i32_73 k1_t6
  let v150 : Index := Scalar.indexCast arg13
  let c48_86 : Index := 48#32
  ![v150.toNat, 48]
def k1_off46 (k1_t6 : Fin k1_t6_loop.trips) : Fin 2 → Nat :=
  let c0_i32_72 : BitVec 32 := 0#32
  let c1_i32_73 : BitVec 32 := 1#32
  let arg13 : BitVec 32 := Scf.iv c0_i32_72 c1_i32_73 k1_t6
  let v156 : Index := Scalar.indexCast arg13
  let c64_87 : Index := 64#32
  ![v156.toNat, 64]
def k1_off47 (k1_t6 : Fin k1_t6_loop.trips) : Fin 2 → Nat :=
  let c0_i32_72 : BitVec 32 := 0#32
  let c1_i32_73 : BitVec 32 := 1#32
  let arg13 : BitVec 32 := Scf.iv c0_i32_72 c1_i32_73 k1_t6
  let v162 : Index := Scalar.indexCast arg13
  let c80_88 : Index := 80#32
  ![v162.toNat, 80]
def k1_off48 (k1_t6 : Fin k1_t6_loop.trips) : Fin 2 → Nat :=
  let c0_i32_72 : BitVec 32 := 0#32
  let c1_i32_73 : BitVec 32 := 1#32
  let arg13 : BitVec 32 := Scf.iv c0_i32_72 c1_i32_73 k1_t6
  let v168 : Index := Scalar.indexCast arg13
  let c96_89 : Index := 96#32
  ![v168.toNat, 96]
def k1_off49 (k1_t6 : Fin k1_t6_loop.trips) : Fin 2 → Nat :=
  let c0_i32_72 : BitVec 32 := 0#32
  let c1_i32_73 : BitVec 32 := 1#32
  let arg13 : BitVec 32 := Scf.iv c0_i32_72 c1_i32_73 k1_t6
  let v174 : Index := Scalar.indexCast arg13
  let c112_90 : Index := 112#32
  ![v174.toNat, 112]
def k1_off50 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_83_r0 : BitVec 32 := 0#32
  ![v1.toNat, 0]
abbrev grid2 : Pipeline.Grid := .none

abbrev stage2_0 : Fin 1 → Memref sig .tc .vmem S1x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x128 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S32x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S32x128 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x128 .i32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x100000 : Shape := ⟨2, ![128, 100000]⟩
abbrev S128x1 : Shape := ⟨2, ![128, 1]⟩

abbrev nBuf : Space → Nat
  | .hbm => 3
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x1, .f32⟩
  | .hbm, ⟨2, _⟩ => ⟨S128x1, .i32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩

abbrev nD : Nat := 1
abbrev τ : Topo := Topo.v7x

variable {F : FTy → Type} [FloatOps F]
-- ==== Proof.Scan.lean ====
/-
  One lane's running maximum, and the sixteen vectors a SparseCore tile carries through its loops.

  A lane scans the logits of one row in index order and keeps the largest value met so far and where it was met: a later
  value replaces it only when it is strictly larger. The tile keeps 128 lanes as eight vectors of values and eight vectors
  of indices. Everything here is over any float values `F`.
-/
module

public import proofs.«01_k».proof.Defs
public import Idealize.ShloMosaic.Lib.Tactic
public import Idealize.ShloMosaic.Lib.ValueLayout
public import proofs.«01_k».proof.Proof.Gen.KernelIdeal
public import proofs.«01_k».proof.Proof.Gen.KernelIdeal.Skeleton

@[expose] public section

noncomputable section

namespace Cert.Proof.Scan

open Cert.KernelIdeal Cert.KernelIdeal.Gen
open Idealize.ShloMosaic Idealize.ShloMosaic.ValueIdx

variable {F : FTy → Type} [FloatOps F]

/-- One lane's state: the largest value so far, and its index. -/
abbrev Lane (F : FTy → Type) : Type := F .f32 × BitVec 32

/-- One more value `x`, at index `i`: kept when strictly larger. -/
def step (s : Lane F) (x : F .f32) (i : BitVec 32) : Lane F :=
  (Scalar.select (FloatOps.cmpf .ogt x s.1) x s.1, Scalar.select (FloatOps.cmpf .ogt x s.1) i s.2)

/-- The state after the first `n` of the values `x 0, x 1, …`, whose indices are `b, b + 1, …`, from `s`. -/
def scan (s : Lane F) (b : ℕ) (x : ℕ → F .f32) : ℕ → Lane F
  | 0 => s
  | n + 1 => step (scan s b x n) (x n) (BitVec.ofNat 32 (b + n))

theorem scan_add (s : Lane F) (b : ℕ) (x : ℕ → F .f32) (n k : ℕ) :
    scan s b x (n + k) = scan (scan s b x n) (b + n) (fun r => x (n + r)) k := by
  induction k with
  | zero => rfl
  | succ k ih => rw [← Nat.add_assoc]; show step _ _ _ = step _ _ _; rw [ih, Nat.add_assoc]

/-- A tile's lanes before anything is scanned. -/
def start : Lane F := (Scalar.ofBits .f32 0xFF800000#32, 0#32)

/-- Lanes `16 g … 16 g + 15` of the values. -/
def vg (S : ℕ → Lane F) (g : ℕ) : FVec F S16 .f32 := fun i => (S (16 * g + (i 0).val)).1
/-- Lanes `16 g … 16 g + 15` of the indices. -/
def ig (S : ℕ → Lane F) (g : ℕ) : IVec S16 32 := fun i => (S (16 * g + (i 0).val)).2

/-- What the loops carry: eight vectors of values, eight of indices. -/
abbrev Carry (F : FTy → Type) : Type :=
  FVec F S16 .f32 × FVec F S16 .f32 × FVec F S16 .f32 × FVec F S16 .f32 × FVec F S16 .f32 × FVec F S16 .f32 × FVec F S16 .f32 × FVec F S16 .f32
    × IVec S16 32 × IVec S16 32 × IVec S16 32 × IVec S16 32 × IVec S16 32 × IVec S16 32 × IVec S16 32 × IVec S16 32

/-- The 128 lanes `S` as what the loops carry. -/
def carry (S : ℕ → Lane F) : Carry F :=
  (vg S 0, vg S 1, vg S 2, vg S 3, vg S 4, vg S 5, vg S 6, vg S 7, ig S 0, ig S 1, ig S 2, ig S 3, ig S 4, ig S 5, ig S 6, ig S 7)

/-- One trip's new values of one vector, from the loaded row piece `w`. -/
def stepV (a : FVec F S16 .f32) (w : Vec F S1x16 .f32) : FVec F S16 .f32 :=
  select (cmpf .ogt (shapeCast S16 w) a) (shapeCast S16 w) a
/-- One trip's new indices of one vector. -/
def stepI (ix : BitVec 32) (a : FVec F S16 .f32) (b : IVec S16 32) (w : Vec F S1x16 .f32) : IVec S16 32 :=
  select (cmpf .ogt (shapeCast S16 w) a) (broadcast S16 ix) b

/-- The piece `w` holds lanes `16 g …` of the row `x`. -/
def Piece (x : ℕ → F .f32) (g : ℕ) (w : Vec F S1x16 .f32) : Prop := ∀ i : Fin 16, w (ix2 0 i) = x (16 * g + i.val)

theorem piece_apply {x : ℕ → F .f32} {g : ℕ} {w : Vec F S1x16 .f32} (h : Piece x g w) (i : S16.Idx) :
    (shapeCast S16 w) i = x (16 * g + (i 0).val) := by
  obtain ⟨a, rfl⟩ : ∃ a : Fin 16, i = ix1 a := ⟨i 0, eq_ix1 i⟩
  exact (shapeCast_1a_a_apply _ _ _).trans (h a)

theorem stepV_vg (S : ℕ → Lane F) {x : ℕ → F .f32} (ix : BitVec 32) {g : ℕ} {w : Vec F S1x16 .f32} (h : Piece x g w) :
    stepV (vg S g) w = vg (fun l => step (S l) (x l) ix) g := by
  funext i
  show Scalar.select (FloatOps.cmpf .ogt ((shapeCast S16 w) i) (vg S g i)) ((shapeCast S16 w) i) (vg S g i) = _
  rw [piece_apply h]; rfl

theorem stepI_ig (S : ℕ → Lane F) {x : ℕ → F .f32} (ix : BitVec 32) {g : ℕ} {w : Vec F S1x16 .f32} (h : Piece x g w) :
    stepI ix (vg S g) (ig S g) w = ig (fun l => step (S l) (x l) ix) g := by
  funext i
  show Scalar.select (FloatOps.cmpf .ogt ((shapeCast S16 w) i) (vg S g i)) ix (ig S g i) = _
  rw [piece_apply h]; rfl

/-- One trip carries the lanes one step on. -/
theorem carry_step (S : ℕ → Lane F) {x : ℕ → F .f32} {ix' ix : BitVec 32} (e : ix' = ix) {w0 w1 w2 w3 w4 w5 w6 w7 : Vec F S1x16 .f32}
    (h0 : Piece x 0 w0) (h1 : Piece x 1 w1) (h2 : Piece x 2 w2) (h3 : Piece x 3 w3)
    (h4 : Piece x 4 w4) (h5 : Piece x 5 w5) (h6 : Piece x 6 w6) (h7 : Piece x 7 w7) :
    ((stepV (vg S 0) w0, stepV (vg S 1) w1, stepV (vg S 2) w2, stepV (vg S 3) w3,
      stepV (vg S 4) w4, stepV (vg S 5) w5, stepV (vg S 6) w6, stepV (vg S 7) w7,
      stepI ix' (vg S 0) (ig S 0) w0, stepI ix' (vg S 1) (ig S 1) w1, stepI ix' (vg S 2) (ig S 2) w2, stepI ix' (vg S 3) (ig S 3) w3,
      stepI ix' (vg S 4) (ig S 4) w4, stepI ix' (vg S 5) (ig S 5) w5, stepI ix' (vg S 6) (ig S 6) w6, stepI ix' (vg S 7) (ig S 7) w7) : Carry F)
      = carry (fun l => step (S l) (x l) ix) := by
  subst e
  rw [stepV_vg S ix' h0, stepV_vg S ix' h1, stepV_vg S ix' h2, stepV_vg S ix' h3, stepV_vg S ix' h4, stepV_vg S ix' h5, stepV_vg S ix' h6, stepV_vg S ix' h7,
    stepI_ig S ix' h0, stepI_ig S ix' h1, stepI_ig S ix' h2, stepI_ig S ix' h3, stepI_ig S ix' h4, stepI_ig S ix' h5, stepI_ig S ix' h6, stepI_ig S ix' h7]
  rfl

/-- The element of the transposed logits at row `n` (an index of the vocabulary), column `l` (a row of the batch); the
    numbers are reduced so that it is an element whatever they are. -/
def cell (n l : ℕ) : S100000x128.Idx := ix2 (⟨n % 100000, Nat.mod_lt _ (by decide)⟩ : Fin 100000) (⟨l % 128, Nat.mod_lt _ (by decide)⟩ : Fin 128)

theorem cell_val (a : Fin 100000) (b : Fin 128) : cell a.val b.val = ix2 a b := by
  unfold cell; congr 1 <;> exact Fin.ext (Nat.mod_eq_of_lt (Fin.isLt _))

/-- The first index worker `w` scans. -/
def base (w : ℕ) : ℕ := 48768 + 1600 * w

/-- Worker `w`'s lanes after the first `n` of its own 1600 values. -/
def part (A : Vec F S100000x128 .f32) (w n : ℕ) (l : ℕ) : Lane F := scan start (base w) (fun r => A (cell (base w + r) l)) n
/-- Worker `w`'s lanes after its own values and the first `n` of the last 32. -/
def tail (A : Vec F S100000x128 .f32) (w n : ℕ) (l : ℕ) : Lane F := scan (part A w 1600 l) 99968 (fun r => A (cell (99968 + r) l)) n
theorem part_succ (A : Vec F S100000x128 .f32) (w n : ℕ) :
    carry (fun l => step (part A w n l) (A (cell (base w + n) l)) (BitVec.ofNat 32 (base w + n))) = carry (part A w (n + 1)) := rfl
theorem tail_succ (A : Vec F S100000x128 .f32) (w n : ℕ) :
    carry (fun l => step (tail A w n l) (A (cell (99968 + n) l)) (BitVec.ofNat 32 (99968 + n))) = carry (tail A w (n + 1)) := rfl

/-- What worker `w` ends with. -/
def found (A : Vec F S100000x128 .f32) (w l : ℕ) : Lane F := tail A w 32 l

end Cert.Proof.Scan
-- ==== Proof.Setup.lean ====
/-
  The run's setting: the resource algebra every part of the proof speaks over, the names of the arrays, and what each
  array holds after each step of `@main`.
-/
module

public import proofs.«01_k».proof.Proof.Scan
public import Idealize.ShloMosaic.Lib.SparseCore.Quiescent
public import Idealize.ShloMosaic.Lib.StableHlo.Run
public import Idealize.ShloMosaic.Lib.Pipeline.Kit

@[expose] public section

noncomputable section

namespace Cert.Proof

open Cert.KernelIdeal Cert.KernelIdeal.Gen
open Idealize.ShloMosaic
open Idealize.ShloMosaic.SparseCore.Cfg (HIx)
open Idealize.SL Idealize.SL.RA Idealize.SL.BI Idealize.SL.Sem
open Idealize.ShloMosaic.Rounds
open Cert.Proof.Scan

variable {F : FTy → Type}

/-- The labels of the TensorCore calls' program, the launch's configuration, its bodies, its variants. -/
abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's handshake cells, the TensorCore calls' staging cells, and the counters of local transfers. -/
abbrev UH : Type := URounds (GSem nD τ sig) ℕ
abbrev UP : Type := UR sig nD τ
abbrev UU : Type := UH × (UP × Counters)

/-- The algebra of the whole run. -/
abbrev MM (F : FTy → Type) : Type := MT nD τ sig (HIx 1) (Elt F) ℕ UU ℕ

abbrev EH : Emb UH (MM F) := embL
/-- The staging cells' component in the whole algebra. -/
def EP : Emb UP (MM F) := (Emb.inl : Emb UP (UP × Counters)).trans embR

instance EP_landsIn : (EP : Emb UP (MM F)).LandsIn (upEmb : UEmb _ (MM F)) := by
  unfold EP; infer_instance

/-- Where the arrays of `@main` lie. -/
abbrev a0Loc (d : Dev nD) : Loc nD τ sig := (SparseCore.T d).loc main_arg0
abbrev xLoc (d : Dev nD) : Loc nD τ sig := (SparseCore.T d).loc main_v0
abbrev tvLoc (d : Dev nD) : Loc nD τ sig := (SparseCore.T d).loc main_v1_0
abbrev tiLoc (d : Dev nD) : Loc nD τ sig := (SparseCore.T d).loc main_v1_1
abbrev svLoc (d : Dev nD) : Loc nD τ sig := (SparseCore.T d).loc main_v2_0
abbrev siLoc (d : Dev nD) : Loc nD τ sig := (SparseCore.T d).loc main_v2_1
abbrev miLoc (d : Dev nD) : Loc nD τ sig := (SparseCore.T d).loc main_v3
abbrev outLoc (d : Dev nD) : Loc nD τ sig := (SparseCore.T d).loc main_v4

variable [FloatOps F]

/-- The transposed logits. -/
abbrev AX (x : Vec F S128x100000 .f32) : Vec F S100000x128 .f32 :=
  transpose S100000x128 [1, 0] x transposes_S128x100000_S100000x128_1_0

/-- What the thirty-two workers leave: their largest values, and the indices of these. -/
def SVal (A : Vec F S100000x128 .f32) : Vec F S32x128 .f32 := fun i => (found A (i 0).val (i 1).val).1
def SIdx (A : Vec F S100000x128 .f32) : Vec F S32x128 .i32 := fun i => (found A (i 0).val (i 1).val).2

end Cert.Proof
-- ==== Proof.Chunks.lean ====
/-
  What a vector subcore's transfers and stores move: the chunks of the transposed logits that land in its staging
  buffers, the pieces of a row its loads read, the sixteen stores that assemble its results, and the rows of the two
  result arrays those go to.
-/
module

public import proofs.«01_k».proof.Proof.Setup
public import Idealize.ShloMosaic.Lib.SparseCore.Ops
public import Idealize.ShloMosaic.Lib.Writes
public import Idealize.ShloMosaic.Lib.ValueLayout
public import Idealize.ShloMosaic.Lib.Pipeline.Value

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan
open Idealize.ShloMosaic.ValueIdx

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S100000x128 EltTy.f32)
local notation "svV" => (Memref.whole Cert.KernelIdeal.main_v2_0_scv : Memref Cert.KernelIdeal.sig Kind.scVector Space.hbm Cert.KernelIdeal.S32x128 EltTy.f32)
local notation "siV" => (Memref.whole Cert.KernelIdeal.main_v2_1_scv : Memref Cert.KernelIdeal.sig Kind.scVector Space.hbm Cert.KernelIdeal.S32x128 EltTy.i32)
local notation "b0V" => (Memref.whole Cert.KernelIdeal.cc1_scratch0 : Memref Cert.KernelIdeal.sig Kind.scVector Space.vmem Cert.KernelIdeal.S320x128 EltTy.f32)
local notation "b1V" => (Memref.whole Cert.KernelIdeal.cc1_scratch1 : Memref Cert.KernelIdeal.sig Kind.scVector Space.vmem Cert.KernelIdeal.S320x128 EltTy.f32)
local notation "btV" => (Memref.whole Cert.KernelIdeal.cc1_scratch2 : Memref Cert.KernelIdeal.sig Kind.scVector Space.vmem Cert.KernelIdeal.S32x128 EltTy.f32)
local notation "rvV" => (Memref.whole Cert.KernelIdeal.cc1_scratch3 : Memref Cert.KernelIdeal.sig Kind.scVector Space.vmem Cert.KernelIdeal.S128 EltTy.f32)
local notation "riV" => (Memref.whole Cert.KernelIdeal.cc1_scratch4 : Memref Cert.KernelIdeal.sig Kind.scVector Space.vmem Cert.KernelIdeal.S128 EltTy.i32)

variable (d : Dev nD) (L : grid1.Coords)

/-- The tile's SparseCore, its vector subcore, and its number among the thirty-two workers. -/
abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)
def wid (L : grid1.Coords) : ℕ := 16 * (L 0).val + (L 1).val

/-- Row `wid` of the two result arrays, squeezed, as the tile addresses them. -/
abbrev svK (L : grid1.Coords) : Memref sig .scVector .hbm S128 .f32 :=
  ((svV).slice (Rect.unit (s := S32x128) (k1_off50 L) S1x128.size (k1_off50_inb L)) (fun _ => rfl)).squeeze S128 squeezes_S1x128_S128
abbrev siK (L : grid1.Coords) : Memref sig .scVector .hbm S128 .i32 :=
  ((siV).slice (Rect.unit (s := S32x128) (k1_off50 L) S1x128.size (k1_off50_inb L)) (fun _ => rfl)).squeeze S128 squeezes_S1x128_S128

/-- The five chunks of the transposed logits the tile fetches, and the last rows every tile fetches, as it addresses them. -/
abbrev chunk (L : grid1.Coords) (r : Fin 5) (o : BitVec 32) (ho : o = BitVec.ofNat 32 (320 * r.val)) : Memref sig .scVector .hbm S320x128 .f32 :=
  (xV).slice (Rect.unit (s := S100000x128) (k1_off1 L o) S320x128.size (ho ▸ k1_off1_inb L r)) (fun _ => rfl)
abbrev lastM : Memref sig .scVector .hbm S32x128 .f32 :=
  (xV).slice (Rect.unit (s := S100000x128) ![99968, 0] S32x128.size inb_S100000x128_S32x128_99968_0) (fun _ => rfl)

/-- The last rows are none of the chunks'. -/
theorem last_disjoint (r : Fin 5) (o : BitVec 32) (ho : o = BitVec.ofNat 32 (320 * r.val)) :
    Disjoint (lastM).view.set (chunk L r o ho).view.set := by
  subst ho
  have h0 : (L 0).val < 2 := (L 0).isLt
  have h1 : (L 1).val < 16 := (L 1).isLt
  have hr := r.isLt
  refine View.disjoint_slice_of_sep _ _ _ 0 rfl rfl (.inr ?_)  --(Rect.unit_disjoint 0 (.inr ?_))
  show (k1_off1 L _) 0 + 320 ≤ 99968
  rw [k1_off1_eq]
  show 25600 * (L 0).val + 1600 * (L 1).val + 320 * r.val + 48768 + 320 ≤ 99968
  omega

/-- Chunk `j` of worker `w`, as it stands in a staging buffer. -/
def chunkBuf (A : Vec F S100000x128 .f32) (w j : ℕ) : Vec F S320x128 .f32 := fun i => A (cell (base w + (320 * j + (i 0).val)) (i 1).val)
/-- The last rows, as they stand in theirs. -/
def lastBuf (A : Vec F S100000x128 .f32) : Vec F S32x128 .f32 := fun i => A (cell (99968 + (i 0).val) (i 1).val)

/-- A sixteen-lane load from a staging buffer reads a piece of the chunk's row. -/
theorem piece0 (A : Vec F S100000x128 .f32) (w j k g : ℕ) {off : Fin 2 → ℕ} (h : off = ![k, 16 * g])
    (inb : ∀ a, off a + S1x16.size a ≤ S320x128.size a) :
    Piece (fun l => A (cell (base w + (320 * j + k)) l)) g
      ((b0V).view.readAt (Elt F) (Rect.unit (s := S320x128) off S1x16.size inb).toLoadRect (chunkBuf A w j)) := by
  subst h; intro i
  show A (cell (base w + (320 * j + (k + 1 * 0))) (16 * g + 1 * i.val)) = _
  simp only [Nat.one_mul, Nat.mul_zero, Nat.add_zero]
theorem piece1 (A : Vec F S100000x128 .f32) (w j k g : ℕ) {off : Fin 2 → ℕ} (h : off = ![k, 16 * g])
    (inb : ∀ a, off a + S1x16.size a ≤ S320x128.size a) :
    Piece (fun l => A (cell (base w + (320 * j + k)) l)) g
      ((b1V).view.readAt (Elt F) (Rect.unit (s := S320x128) off S1x16.size inb).toLoadRect (chunkBuf A w j)) := piece0 A w j k g h inb
theorem piecet (A : Vec F S100000x128 .f32) (k g : ℕ) {off : Fin 2 → ℕ} (h : off = ![k, 16 * g])
    (inb : ∀ a, off a + S1x16.size a ≤ S32x128.size a) :
    Piece (fun l => A (cell (99968 + k) l)) g
      ((btV).view.readAt (Elt F) (Rect.unit (s := S32x128) off S1x16.size inb).toLoadRect (lastBuf A)) := by
  subst h; intro i
  show A (cell (99968 + (k + 1 * 0)) (16 * g + 1 * i.val)) = _
  simp only [Nat.one_mul, Nat.mul_zero, Nat.add_zero]

/-- A row's number as the tile computes it. -/
theorem word_eq (L : grid1.Coords) (j k : ℕ) :
    Scalar.addi (Scalar.addi (Scalar.addi 48768#32 (Scalar.muli (Scalar.addi (Scalar.muli (BitVec.ofNat 32 (L 0).val) 16#32) (BitVec.ofNat 32 (L 1).val)) 1600#32))
      (BitVec.ofNat 32 (320 * j))) (Scf.iv 0#32 1#32 k) = BitVec.ofNat 32 (base (wid L) + (320 * j + k)) := by
  show (48768#32 + (BitVec.ofNat 32 (L 0).val * 16#32 + BitVec.ofNat 32 (L 1).val) * 1600#32) + BitVec.ofNat 32 (320 * j) + (0#32 + BitVec.ofNat 32 k * 1#32) = _
  simp only [← BitVec.ofNat_add, ← BitVec.ofNat_mul]
  unfold base wid
  congr 1; ring
theorem word_last (k : ℕ) : Scalar.addi 99968#32 (Scf.iv 0#32 1#32 k) = BitVec.ofNat 32 (99968 + k) := by
  show 99968#32 + (0#32 + BitVec.ofNat 32 k * 1#32) = _
  simp only [← BitVec.ofNat_add, ← BitVec.ofNat_mul]
  congr 1; ring

/-- A chunk landed in a staging buffer. -/
theorem land0 (A : Vec F S100000x128 .f32) (r : Fin 5) (o : BitVec 32) (ho : o = BitVec.ofNat 32 (320 * r.val)) (f : (b0V).view.ty.Contents (Elt F)) :
    View.write (Elt F) (b0V).view f ((chunk L r o ho).view.read (Elt F) A) Finset.univ = chunkBuf A (wid L) r.val := by
  subst ho
  refine (View.write_whole_univ _ _ _).trans ?_
  funext i
  have h0 : (L 0).val < 2 := (L 0).isLt
  have h1 : (L 1).val < 16 := (L 1).isLt
  have h2 : (i 0).val < 320 := (i 0).isLt
  have h3 : (i 1).val < 128 := (i 1).isLt
  have hr := r.isLt
  refine congrArg A (funext fun a => Fin.ext ?_)
  match a with
  | 0 =>
    show (k1_off1 L (BitVec.ofNat 32 (320 * r.val))) 0 + 1 * (i 0).val = (base (wid L) + (320 * r.val + (i 0).val)) % 100000
    rw [k1_off1_eq]
    show 25600 * (L 0).val + 1600 * (L 1).val + 320 * r.val + 48768 + 1 * (i 0).val = (base (wid L) + (320 * r.val + (i 0).val)) % 100000
    unfold base wid; omega
  | 1 =>
    show (k1_off1 L (BitVec.ofNat 32 (320 * r.val))) 1 + 1 * (i 1).val = (i 1).val % 128
    rw [k1_off1_eq]
    show 0 + 1 * (i 1).val = (i 1).val % 128
    omega
theorem land1 (A : Vec F S100000x128 .f32) (r : Fin 5) (o : BitVec 32) (ho : o = BitVec.ofNat 32 (320 * r.val)) (f : (b1V).view.ty.Contents (Elt F)) :
    View.write (Elt F) (b1V).view f ((chunk L r o ho).view.read (Elt F) A) Finset.univ = chunkBuf A (wid L) r.val :=
  (View.write_whole_univ _ _ _).trans ((View.write_whole_univ _ _ _).symm.trans (land0 L A r o ho f))
theorem landt (A : Vec F S100000x128 .f32) (f : (btV).view.ty.Contents (Elt F)) :
    View.write (Elt F) (btV).view f ((lastM).view.read (Elt F) A) Finset.univ = lastBuf A := by
  refine (View.write_whole_univ _ _ _).trans ?_
  funext i
  have h2 : (i 0).val < 32 := (i 0).isLt
  have h3 : (i 1).val < 128 := (i 1).isLt
  refine congrArg A (funext fun a => Fin.ext ?_)
  match a with
  | 0 => show 99968 + 1 * (i 0).val = (99968 + (i 0).val) % 100000; omega
  | 1 => show 0 + 1 * (i 1).val = (i 1).val % 128; omega

/-- Before trip `t` over chunk `j`: the lanes have the first `320 j + t` values, the chunk stands in its buffer. -/
def inv0 (A : Vec F S100000x128 .f32) (j t : ℕ) (c : Carry F) : sProp 𝕄 :=
  iprop(⌜c = carry (part A (wid L) (320 * j + t))⌝ ∗ ((b0V).view.loc (thr d L) ↦{fullShare} chunkBuf A (wid L) j))
def inv1 (A : Vec F S100000x128 .f32) (j t : ℕ) (c : Carry F) : sProp 𝕄 :=
  iprop(⌜c = carry (part A (wid L) (320 * j + t))⌝ ∗ ((b1V).view.loc (thr d L) ↦{fullShare} chunkBuf A (wid L) j))
def invt (A : Vec F S100000x128 .f32) (t : ℕ) (c : Carry F) : sProp 𝕄 :=
  iprop(⌜c = carry (tail A (wid L) t)⌝ ∗ ((btV).view.loc (thr d L) ↦{fullShare} lastBuf A))

/-! ## The results assembled, and the rows they go to -/

/-- The eight stores of the lanes' largest values, and of their indices, the last first. -/
def valPieces (S : ℕ → Lane F) : List (View.Piece (Elt F) S128 .f32) :=
  [⟨Rect.unit (s := S128) ![112] S16.size inb_S128_S16_112, shapeCast S16 (vg S 7) shapeCasts_S16_S16⟩,
   ⟨Rect.unit (s := S128) ![96] S16.size inb_S128_S16_96, shapeCast S16 (vg S 6) shapeCasts_S16_S16⟩,
   ⟨Rect.unit (s := S128) ![80] S16.size inb_S128_S16_80, shapeCast S16 (vg S 5) shapeCasts_S16_S16⟩,
   ⟨Rect.unit (s := S128) ![64] S16.size inb_S128_S16_64, shapeCast S16 (vg S 4) shapeCasts_S16_S16⟩,
   ⟨Rect.unit (s := S128) ![48] S16.size inb_S128_S16_48, shapeCast S16 (vg S 3) shapeCasts_S16_S16⟩,
   ⟨Rect.unit (s := S128) ![32] S16.size inb_S128_S16_32, shapeCast S16 (vg S 2) shapeCasts_S16_S16⟩,
   ⟨Rect.unit (s := S128) ![16] S16.size inb_S128_S16_16, shapeCast S16 (vg S 1) shapeCasts_S16_S16⟩,
   ⟨Rect.unit (s := S128) ![0] S16.size inb_S128_S16_0, shapeCast S16 (vg S 0) shapeCasts_S16_S16⟩]
def idxPieces (S : ℕ → Lane F) : List (View.Piece (Elt F) S128 .i32) :=
  [⟨Rect.unit (s := S128) ![112] S16.size inb_S128_S16_112, shapeCast S16 (ig S 7) shapeCasts_S16_S16⟩,
   ⟨Rect.unit (s := S128) ![96] S16.size inb_S128_S16_96, shapeCast S16 (ig S 6) shapeCasts_S16_S16⟩,
   ⟨Rect.unit (s := S128) ![80] S16.size inb_S128_S16_80, shapeCast S16 (ig S 5) shapeCasts_S16_S16⟩,
   ⟨Rect.unit (s := S128) ![64] S16.size inb_S128_S16_64, shapeCast S16 (ig S 4) shapeCasts_S16_S16⟩,
   ⟨Rect.unit (s := S128) ![48] S16.size inb_S128_S16_48, shapeCast S16 (ig S 3) shapeCasts_S16_S16⟩,
   ⟨Rect.unit (s := S128) ![32] S16.size inb_S128_S16_32, shapeCast S16 (ig S 2) shapeCasts_S16_S16⟩,
   ⟨Rect.unit (s := S128) ![16] S16.size inb_S128_S16_16, shapeCast S16 (ig S 1) shapeCasts_S16_S16⟩,
   ⟨Rect.unit (s := S128) ![0] S16.size inb_S128_S16_0, shapeCast S16 (ig S 0) shapeCasts_S16_S16⟩]

/-- Lanes `16 g ..` of a vector over the lanes, cast to its own shape, at the place a store puts it. -/
theorem group_val {α : Type} (G : ℕ → α) (g o : ℕ) (h : o = 16 * g) (w : S16.Idx → α) (hw : ∀ x, w x = G (16 * g + (x 0).val)) (x : S16.Idx) :
    shapeCast S16 w shapeCasts_S16_S16 x = G (o + 1 * (x 0).val) := by
  rw [shapeCast_self, hw, h, Nat.one_mul]

theorem stored_val (S : ℕ → Lane F) (f : (rvV).view.ty.Contents (Elt F)) (y : S128.Idx) :
    (rvV).view.read (Elt F) ((rvV).view.writes (Elt F) f (valPieces S)) y = (S (y 0).val).1 := by
  refine View.read_writes_apply_of_pieces (v := (rvV).view) (f := f) (fun y => (S (y 0).val).1) (valPieces S) ?_ y ?_
  · unfold valPieces
    refine List.forall_mem_cons.mpr ⟨fun x => group_val (fun l => (S l).1) 7 112 rfl _ (fun _ => rfl) x, ?_⟩
    refine List.forall_mem_cons.mpr ⟨fun x => group_val (fun l => (S l).1) 6 96 rfl _ (fun _ => rfl) x, ?_⟩
    refine List.forall_mem_cons.mpr ⟨fun x => group_val (fun l => (S l).1) 5 80 rfl _ (fun _ => rfl) x, ?_⟩
    refine List.forall_mem_cons.mpr ⟨fun x => group_val (fun l => (S l).1) 4 64 rfl _ (fun _ => rfl) x, ?_⟩
    refine List.forall_mem_cons.mpr ⟨fun x => group_val (fun l => (S l).1) 3 48 rfl _ (fun _ => rfl) x, ?_⟩
    refine List.forall_mem_cons.mpr ⟨fun x => group_val (fun l => (S l).1) 2 32 rfl _ (fun _ => rfl) x, ?_⟩
    refine List.forall_mem_cons.mpr ⟨fun x => group_val (fun l => (S l).1) 1 16 rfl _ (fun _ => rfl) x, ?_⟩
    refine List.forall_mem_cons.mpr ⟨fun x => group_val (fun l => (S l).1) 0 0 rfl _ (fun _ => rfl) x, ?_⟩
    exact fun _ h => absurd h List.not_mem_nil
  · exact View.cover_of_tiled (valPieces S) ![16] rfl y
theorem stored_idx (S : ℕ → Lane F) (f : (riV).view.ty.Contents (Elt F)) (y : S128.Idx) :
    (riV).view.read (Elt F) ((riV).view.writes (Elt F) f (idxPieces S)) y = (S (y 0).val).2 := by
  refine View.read_writes_apply_of_pieces (v := (riV).view) (f := f) (fun y => (S (y 0).val).2) (idxPieces S) ?_ y ?_
  · unfold idxPieces
    refine List.forall_mem_cons.mpr ⟨fun x => group_val (fun l => (S l).2) 7 112 rfl _ (fun _ => rfl) x, ?_⟩
    refine List.forall_mem_cons.mpr ⟨fun x => group_val (fun l => (S l).2) 6 96 rfl _ (fun _ => rfl) x, ?_⟩
    refine List.forall_mem_cons.mpr ⟨fun x => group_val (fun l => (S l).2) 5 80 rfl _ (fun _ => rfl) x, ?_⟩
    refine List.forall_mem_cons.mpr ⟨fun x => group_val (fun l => (S l).2) 4 64 rfl _ (fun _ => rfl) x, ?_⟩
    refine List.forall_mem_cons.mpr ⟨fun x => group_val (fun l => (S l).2) 3 48 rfl _ (fun _ => rfl) x, ?_⟩
    refine List.forall_mem_cons.mpr ⟨fun x => group_val (fun l => (S l).2) 2 32 rfl _ (fun _ => rfl) x, ?_⟩
    refine List.forall_mem_cons.mpr ⟨fun x => group_val (fun l => (S l).2) 1 16 rfl _ (fun _ => rfl) x, ?_⟩
    refine List.forall_mem_cons.mpr ⟨fun x => group_val (fun l => (S l).2) 0 0 rfl _ (fun _ => rfl) x, ?_⟩
    exact fun _ h => absurd h List.not_mem_nil
  · exact View.cover_of_tiled (idxPieces S) ![16] rfl y

theorem wid_lt : wid L < 32 := by
  have h0 : (L 0).val < 2 := (L 0).isLt
  have h1 : (L 1).val < 16 := (L 1).isLt
  unfold wid; omega
/-- The worker, as a row of the result arrays. -/
def widF : Fin 32 := ⟨wid L, wid_lt L⟩

/-- Row `w` of the result arrays. -/
def rowSet (w : Fin 32) : Finset S32x128.Idx := Finset.univ.filter fun i => (i 0).val = w.val

theorem row_place (x : S128.Idx) (y : S32x128.Idx)
    (h : y = (Rect.unit (s := S32x128) (k1_off50 L) S1x128.size (k1_off50_inb L)).emb (ix2 (0 : Fin 1) (x 0))) : y = ix2 (widF L) (x 0) := by
  subst h
  funext a
  refine Fin.ext ?_
  match a with
  | 0 =>
    show (k1_off50 L) 0 + 1 * 0 = wid L
    rw [k1_off50_eq]; rfl
  | 1 =>
    show (k1_off50 L) 1 + 1 * (x 0).val = (x 0).val
    rw [k1_off50_eq]
    show 0 + 1 * (x 0).val = (x 0).val
    omega

theorem svK_emb (x : S128.Idx) : (svK L).view.emb x = ix2 (widF L) (x 0) := by
  refine row_place L x _ ?_
  obtain ⟨l, rfl⟩ : ∃ l, x = ix1 l := ⟨x 0, eq_ix1 x⟩
  exact shapeCast_1a_a_apply (α := S32x128.Idx) (a := 128)
    (fun y => (Rect.unit (s := S32x128) (k1_off50 L) S1x128.size (k1_off50_inb L)).emb y) (by decide) l
theorem siK_emb (x : S128.Idx) : (siK L).view.emb x = ix2 (widF L) (x 0) := svK_emb L x

theorem svK_set : (svK L).view.set = rowSet (widF L) := by
  ext i
  refine ⟨fun h => ?_, fun h => ?_⟩
  · obtain ⟨x, -, rfl⟩ := Finset.mem_map.mp h
    exact Finset.mem_filter.mpr ⟨Finset.mem_univ _, congrArg Fin.val (congrFun (svK_emb L x) 0)⟩
  · obtain ⟨-, h⟩ := Finset.mem_filter.mp h
    refine Finset.mem_map.mpr ⟨ix1 (i 1), Finset.mem_univ _, (svK_emb L _).trans ?_⟩
    rw [← (Fin.ext h : i 0 = widF L)]; exact (eq_ix2 i).symm
theorem siK_set : (siK L).view.set = rowSet (widF L) := svK_set L

theorem whole_place (x : S128.Idx) : (Rect.whole S128).emb x = x :=
  funext fun a => Fin.ext (by show 0 + 1 * (x a).val = (x a).val; omega)

/-- What the two copies out leave in the tile's rows: what the worker found. -/
theorem svK_left (A : Vec F S100000x128 .f32) (g : (svK L).view.ty.Contents (Elt F)) (w : S128.Idx → Elt F .f32)
    (hw : ∀ y, w y = (found A (wid L) (y 0).val).1) :
    ∀ i ∈ (svK L).view.set, (svK L).view.writes (Elt F) g [⟨Rect.whole S128, w⟩] i = SVal A i := by
  intro i hi
  obtain ⟨x, -, rfl⟩ := Finset.mem_map.mp hi
  have hx : ((svK L).view.slice (Rect.whole S128)).emb x = (svK L).view.emb x := congrArg (svK L).view.emb (whole_place x)
  rw [View.writes_singleton, ← hx]
  refine (View.write_emb_of_mem _ _ (Finset.mem_univ x)).trans ((hw x).trans ?_)
  rw [hx, svK_emb]; rfl
theorem siK_left (A : Vec F S100000x128 .f32) (g : (siK L).view.ty.Contents (Elt F)) (w : S128.Idx → Elt F .i32)
    (hw : ∀ y, w y = (found A (wid L) (y 0).val).2) :
    ∀ i ∈ (siK L).view.set, (siK L).view.writes (Elt F) g [⟨Rect.whole S128, w⟩] i = SIdx A i := by
  intro i hi
  obtain ⟨x, -, rfl⟩ := Finset.mem_map.mp hi
  have hx : ((siK L).view.slice (Rect.whole S128)).emb x = (siK L).view.emb x := congrArg (siK L).view.emb (whole_place x)
  rw [View.writes_singleton, ← hx]
  refine (View.write_emb_of_mem _ _ (Finset.mem_univ x)).trans ((hw x).trans ?_)
  rw [hx, siK_emb]; rfl

end Cert.Proof.Tile
-- ==== Proof.Tile.lean ====
/-
  One vector subcore's task, run once at a symbolic SparseCore and subcore: the chunks fetched two at a time, the six
  loops over them, the results assembled and copied out.
-/
module

public import proofs.«01_k».proof.Proof.Chunks
public import Idealize.ShloMosaic.Lib.SparseCore.Ops

@[expose] public section

noncomputable section

namespace Cert.Proof.Tile

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S100000x128 EltTy.f32)
local notation "svV" => (Memref.whole Cert.KernelIdeal.main_v2_0_scv : Memref Cert.KernelIdeal.sig Kind.scVector Space.hbm Cert.KernelIdeal.S32x128 EltTy.f32)
local notation "siV" => (Memref.whole Cert.KernelIdeal.main_v2_1_scv : Memref Cert.KernelIdeal.sig Kind.scVector Space.hbm Cert.KernelIdeal.S32x128 EltTy.i32)
local notation "b0V" => (Memref.whole Cert.KernelIdeal.cc1_scratch0 : Memref Cert.KernelIdeal.sig Kind.scVector Space.vmem Cert.KernelIdeal.S320x128 EltTy.f32)
local notation "b1V" => (Memref.whole Cert.KernelIdeal.cc1_scratch1 : Memref Cert.KernelIdeal.sig Kind.scVector Space.vmem Cert.KernelIdeal.S320x128 EltTy.f32)
local notation "btV" => (Memref.whole Cert.KernelIdeal.cc1_scratch2 : Memref Cert.KernelIdeal.sig Kind.scVector Space.vmem Cert.KernelIdeal.S32x128 EltTy.f32)
local notation "rvV" => (Memref.whole Cert.KernelIdeal.cc1_scratch3 : Memref Cert.KernelIdeal.sig Kind.scVector Space.vmem Cert.KernelIdeal.S128 EltTy.f32)
local notation "riV" => (Memref.whole Cert.KernelIdeal.cc1_scratch4 : Memref Cert.KernelIdeal.sig Kind.scVector Space.vmem Cert.KernelIdeal.S128 EltTy.i32)

variable (d : Dev nD) (L : grid1.Coords)

set_option maxHeartbeats 4000000 in
theorem run (q : PosShare TreeShare) (A : Buf (Elt F) (xLoc d)) (O : CellTallies nD τ sig (HIx 1)) (W : Waits sig (HIx 1))
    (f0 : Buf (Elt F) ((thr d L).loc cc1_scratch0)) (f1 : Buf (Elt F) ((thr d L).loc cc1_scratch1)) (ft : Buf (Elt F) ((thr d L).loc cc1_scratch2))
    (fv : Buf (Elt F) ((thr d L).loc cc1_scratch3))  (fi : Buf (Elt F) ((thr d L).loc cc1_scratch4)) (gv : Buf (Elt F) (svLoc d)) (gi : Buf (Elt F) (siLoc d)):
    iprop(Transfers.MayWaits (thr d L) (default : HIx 1) O
        ∗ ((xV).view.loc (thr d L) ↦{q} A)
        ∗ ((svK L).view.loc (thr d L) ↦[(svK L).view.set]{fullShare} gv)
        ∗ ((siK L).view.loc (thr d L) ↦[(siK L).view.set]{fullShare} gi)
        ∗ ((b0V).view.loc (thr d L) ↦{fullShare} f0)
        ∗ ((b1V).view.loc (thr d L) ↦{fullShare} f1)
        ∗ ((btV).view.loc (thr d L) ↦{fullShare} ft)
        ∗ ((rvV).view.loc (thr d L) ↦{fullShare} fv)
        ∗ ((riV).view.loc (thr d L) ↦{fullShare} fi)
        ∗ semVal (thr d L, SemLoc.dma cc1_scratch5.sem) 0
        ∗ semVal (thr d L, SemLoc.dma cc1_scratch6.sem) 0
        ∗ semVal (thr d L, SemLoc.dma cc1_scratch7.sem) 0
        ∗ semVal (thr d L, SemLoc.dma cc1_scoped0.sem) 0
        ∗ semVal (thr d L, SemLoc.dma cc1_scoped1.sem) 0
        ∗ owes (thr d L) O W)
      ⊢ (wp frame (wpE (defs₀ (F := F)) 𝒱₀ (thr d L) none) Set.univ
          (cc1__sc_shard L xV (Memref.isWhole_whole _) svV (Memref.isWhole_whole _) siV (Memref.isWhole_whole _)
            b0V (Memref.isWhole_whole _) b1V (Memref.isWhole_whole _) btV (Memref.isWhole_whole _) rvV (Memref.isWhole_whole _) riV (Memref.isWhole_whole _)
            cc1_scratch5 cc1_scratch6 cc1_scratch7 cc1_scoped0 cc1_scoped1)
          fun _ => iprop(((xV).view.loc (thr d L) ↦{q} A)
            ∗ ((svK L).view.loc (thr d L) ↦[(svK L).view.set]{fullShare} SVal A)
            ∗ ((siK L).view.loc (thr d L) ↦[(siK L).view.set]{fullShare} SIdx A)
            ∗ (∃ f, (b0V).view.loc (thr d L) ↦{fullShare} f) ∗ (∃ f, (b1V).view.loc (thr d L) ↦{fullShare} f)
            ∗ (∃ f, (btV).view.loc (thr d L) ↦{fullShare} f) ∗ (∃ f, (rvV).view.loc (thr d L) ↦{fullShare} f)
            ∗ (∃ f, (riV).view.loc (thr d L) ↦{fullShare} f)
            ∗ semVal (thr d L, SemLoc.dma cc1_scratch5.sem) 0 ∗ semVal (thr d L, SemLoc.dma cc1_scratch6.sem) 0
            ∗ semVal (thr d L, SemLoc.dma cc1_scratch7.sem) 0 ∗ semVal (thr d L, SemLoc.dma cc1_scoped0.sem) 0
            ∗ semVal (thr d L, SemLoc.dma cc1_scoped1.sem) 0
            ∗ ∃ W', ⌜∀ p ∈ W', p ∈ W ∨ p.2 = none⌝ ∗ owes (thr d L) O W') : sProp 𝕄) := by
  have hL0 : (L 0).val < 2 := (L 0).isLt
  have hL1 : (L 1).val < 16 := (L 1).isLt
  have hd0 := last_disjoint L 0 0#32 rfl
  have hd1 := last_disjoint L 1 320#32 rfl
  have hd2 := last_disjoint L 2 640#32 rfl
  have hd3 := last_disjoint L 3 960#32 rfl
  have hd4 := last_disjoint L 4 1280#32 rfl
  rw [cc1__sc_shard_eq_skeleton]; unfold cc1__sc_shard_skel
  rw [k1_part1_eq_skeleton, k1_part2_eq_skeleton, k1_part3_eq_skeleton, k1_part4_eq_skeleton]; unfold k1_part1_skel k1_part2_skel k1_part3_skel k1_part4_skel
  iintro ⟨#Hmw, Hx, Hsv, Hsi, Hb0, Hb1, Hbt, Hrv, Hri, Hs0, Hs1, Hs2, Hc0, Hc1, HO⟩
  sl_exec (disch := first | exact View.amount_pos _ _ (show 0 < S320x128.numel by decide) | exact View.amount_pos _ _ (show 0 < S32x128.numel by decide))
  rw [Prog.bind_assoc]
  have e0 : View.write (Elt F) (b0V).view f0 (run.sl.dma0 d L A) Finset.univ = chunkBuf A (wid L) 0 := land0 L A 0 0#32 rfl f0
  rw [e0]
  try rw [Prog.bind_assoc]
  sl_for (inv0 d L A 0) $$ [Hb0]
  case region =>
    intro k c
    unfold inv0
    iintro ⟨%hc, Hb⟩
    subst hc
    sl_exec
    sl_step
    isplitr
    · ipureintro
      exact (carry_step (part A (wid L) (320 * 0 + k.val)) (word_eq L 0 k.val)
        (piece0 A (wid L) 0 k.val 0 (k1_off2_eq k) _) (piece0 A (wid L) 0 k.val 1 (k1_off3_eq k) _)
        (piece0 A (wid L) 0 k.val 2 (k1_off4_eq k) _) (piece0 A (wid L) 0 k.val 3 (k1_off5_eq k) _)
        (piece0 A (wid L) 0 k.val 4 (k1_off6_eq k) _) (piece0 A (wid L) 0 k.val 5 (k1_off7_eq k) _)
        (piece0 A (wid L) 0 k.val 6 (k1_off8_eq k) _) (piece0 A (wid L) 0 k.val 7 (k1_off9_eq k) _)).trans (part_succ A (wid L) (320 * 0 + k.val))
    · iexact Hb
  · unfold inv0
    isplitr
    · ipureintro; rfl
    · iexact Hb0
  iintro %c HI
  unfold inv0
  icases HI with ⟨%hc, Hb0⟩
  subst hc
  sl_exec (disch := first | exact View.amount_pos _ _ (show 0 < S320x128.numel by decide) | exact View.amount_pos _ _ (show 0 < S32x128.numel by decide))
  have e1 : View.write (Elt F) (b1V).view f1 (run.sl.dma0_1 d L A) Finset.univ = chunkBuf A (wid L) 1 := land1 L A 1 320#32 rfl f1
  rw [e1]
  try rw [Prog.bind_assoc]
  sl_for (inv1 d L A 1) $$ [Hb1]
  case region =>
    intro k c
    unfold inv1
    iintro ⟨%hc, Hb⟩
    subst hc
    sl_exec
    sl_step
    isplitr
    · ipureintro
      exact (carry_step (part A (wid L) (320 * 1 + k.val)) (word_eq L 1 k.val)
        (piece1 A (wid L) 1 k.val 0 (k1_off10_eq k) _) (piece1 A (wid L) 1 k.val 1 (k1_off11_eq k) _)
        (piece1 A (wid L) 1 k.val 2 (k1_off12_eq k) _) (piece1 A (wid L) 1 k.val 3 (k1_off13_eq k) _)
        (piece1 A (wid L) 1 k.val 4 (k1_off14_eq k) _) (piece1 A (wid L) 1 k.val 5 (k1_off15_eq k) _)
        (piece1 A (wid L) 1 k.val 6 (k1_off16_eq k) _) (piece1 A (wid L) 1 k.val 7 (k1_off17_eq k) _)).trans (part_succ A (wid L) (320 * 1 + k.val))
    · iexact Hb
  · unfold inv1
    isplitr
    · ipureintro; rfl
    · iexact Hb1
  iintro %c HI
  unfold inv1
  icases HI with ⟨%hc, Hb1⟩
  subst hc
  sl_exec (disch := first | exact View.amount_pos _ _ (show 0 < S320x128.numel by decide) | exact View.amount_pos _ _ (show 0 < S32x128.numel by decide))
  have e2 : View.write (Elt F) (b0V).view (chunkBuf A (wid L) 0) (run.sl.dma0_3 d L A) Finset.univ = chunkBuf A (wid L) 2 := land0 L A 2 640#32 rfl (chunkBuf A (wid L) 0)
  rw [e2]
  try rw [Prog.bind_assoc]
  sl_for (inv0 d L A 2) $$ [Hb0]
  case region =>
    intro k c
    unfold inv0
    iintro ⟨%hc, Hb⟩
    subst hc
    sl_exec
    sl_step
    isplitr
    · ipureintro
      exact (carry_step (part A (wid L) (320 * 2 + k.val)) (word_eq L 2 k.val)
        (piece0 A (wid L) 2 k.val 0 (k1_off18_eq k) _) (piece0 A (wid L) 2 k.val 1 (k1_off19_eq k) _)
        (piece0 A (wid L) 2 k.val 2 (k1_off20_eq k) _) (piece0 A (wid L) 2 k.val 3 (k1_off21_eq k) _)
        (piece0 A (wid L) 2 k.val 4 (k1_off22_eq k) _) (piece0 A (wid L) 2 k.val 5 (k1_off23_eq k) _)
        (piece0 A (wid L) 2 k.val 6 (k1_off24_eq k) _) (piece0 A (wid L) 2 k.val 7 (k1_off25_eq k) _)).trans (part_succ A (wid L) (320 * 2 + k.val))
    · iexact Hb
  · unfold inv0
    isplitr
    · ipureintro; rfl
    · iexact Hb0
  iintro %c HI
  unfold inv0
  icases HI with ⟨%hc, Hb0⟩
  subst hc
  sl_exec (disch := first | exact View.amount_pos _ _ (show 0 < S320x128.numel by decide) | exact View.amount_pos _ _ (show 0 < S32x128.numel by decide))
  have e3 : View.write (Elt F) (b1V).view (chunkBuf A (wid L) 1) (run.sl.dma0_4 d L A) Finset.univ = chunkBuf A (wid L) 3 := land1 L A 3 960#32 rfl (chunkBuf A (wid L) 1)
  rw [e3]
  try rw [Prog.bind_assoc]
  sl_for (inv1 d L A 3) $$ [Hb1]
  case region =>
    intro k c
    unfold inv1
    iintro ⟨%hc, Hb⟩
    subst hc
    sl_exec
    sl_step
    isplitr
    · ipureintro
      exact (carry_step (part A (wid L) (320 * 3 + k.val)) (word_eq L 3 k.val)
        (piece1 A (wid L) 3 k.val 0 (k1_off26_eq k) _) (piece1 A (wid L) 3 k.val 1 (k1_off27_eq k) _)
        (piece1 A (wid L) 3 k.val 2 (k1_off28_eq k) _) (piece1 A (wid L) 3 k.val 3 (k1_off29_eq k) _)
        (piece1 A (wid L) 3 k.val 4 (k1_off30_eq k) _) (piece1 A (wid L) 3 k.val 5 (k1_off31_eq k) _)
        (piece1 A (wid L) 3 k.val 6 (k1_off32_eq k) _) (piece1 A (wid L) 3 k.val 7 (k1_off33_eq k) _)).trans (part_succ A (wid L) (320 * 3 + k.val))
    · iexact Hb
  · unfold inv1
    isplitr
    · ipureintro; rfl
    · iexact Hb1
  iintro %c HI
  unfold inv1
  icases HI with ⟨%hc, Hb1⟩
  subst hc
  sl_exec (disch := first | exact View.amount_pos _ _ (show 0 < S320x128.numel by decide) | exact View.amount_pos _ _ (show 0 < S32x128.numel by decide))
  have e4 : View.write (Elt F) (b0V).view (chunkBuf A (wid L) 2) (run.sl.dma0_5 d L A) Finset.univ = chunkBuf A (wid L) 4 := land0 L A 4 1280#32 rfl (chunkBuf A (wid L) 2)
  rw [e4]
  try rw [Prog.bind_assoc]
  sl_for (inv0 d L A 4) $$ [Hb0]
  case region =>
    intro k c
    unfold inv0
    iintro ⟨%hc, Hb⟩
    subst hc
    sl_exec
    sl_step
    isplitr
    · ipureintro
      exact (carry_step (part A (wid L) (320 * 4 + k.val)) (word_eq L 4 k.val)
        (piece0 A (wid L) 4 k.val 0 (k1_off34_eq k) _) (piece0 A (wid L) 4 k.val 1 (k1_off35_eq k) _)
        (piece0 A (wid L) 4 k.val 2 (k1_off36_eq k) _) (piece0 A (wid L) 4 k.val 3 (k1_off37_eq k) _)
        (piece0 A (wid L) 4 k.val 4 (k1_off38_eq k) _) (piece0 A (wid L) 4 k.val 5 (k1_off39_eq k) _)
        (piece0 A (wid L) 4 k.val 6 (k1_off40_eq k) _) (piece0 A (wid L) 4 k.val 7 (k1_off41_eq k) _)).trans (part_succ A (wid L) (320 * 4 + k.val))
    · iexact Hb
  · unfold inv0
    isplitr
    · ipureintro; rfl
    · iexact Hb0
  iintro %c HI
  unfold inv0
  icases HI with ⟨%hc, Hb0⟩
  subst hc
  sl_exec (disch := first | exact View.amount_pos _ _ (show 0 < S320x128.numel by decide) | exact View.amount_pos _ _ (show 0 < S32x128.numel by decide))
  have e5 : View.write (Elt F) (btV).view ft (run.sl.dma0_2 d A) Finset.univ = lastBuf A := landt A ft
  rw [e5]
  try rw [Prog.bind_assoc]
  sl_for (invt d L A) $$ [Hbt]
  case region =>
    intro k c
    unfold invt
    iintro ⟨%hc, Hb⟩
    subst hc
    sl_exec
    sl_step
    isplitr
    · ipureintro
      exact (carry_step (tail A (wid L) k.val) (word_last k.val)
        (piecet A k.val 0 (k1_off42_eq k) _) (piecet A k.val 1 (k1_off43_eq k) _)
        (piecet A k.val 2 (k1_off44_eq k) _) (piecet A k.val 3 (k1_off45_eq k) _)
        (piecet A k.val 4 (k1_off46_eq k) _) (piecet A k.val 5 (k1_off47_eq k) _)
        (piecet A k.val 6 (k1_off48_eq k) _) (piecet A k.val 7 (k1_off49_eq k) _)).trans (tail_succ A (wid L) k.val)
    · iexact Hb
  · unfold invt
    isplitr
    · ipureintro; rfl
    · iexact Hbt
  iintro %c HI
  unfold invt
  icases HI with ⟨%hc, Hbt⟩
  subst hc
  sl_exec (disch := first | exact View.amount_pos _ _ (show 0 < S320x128.numel by decide) | exact View.amount_pos _ _ (show 0 < S32x128.numel by decide))
  sl_step
  isplitl [Hx]; · iexact Hx
  isplitl [Hsv]
  · iapply (Entails.of_eq (pointsTo_congr (svK_left L A gv (run.sl.dma32 d L A fv) (fun y => stored_val (tail A (wid L) 32) fv y))))
    iexact Hsv
  isplitl [Hsi]
  · iapply (Entails.of_eq (pointsTo_congr (siK_left L A gi (run.sl.dma32_1 d L A fi) (fun y => stored_idx (tail A (wid L) 32) fi y))))
    iexact Hsi
  isplitl [Hb0]; · iexists _; iexact Hb0
  isplitl [Hb1]; · iexists _; iexact Hb1
  isplitl [Hbt]; · iexists _; iexact Hbt
  isplitl [Hrv]; · iexists _; iexact Hrv
  isplitl [Hri]; · iexists _; iexact Hri
  isplitl [Hs0]; · iexact Hs0
  isplitl [Hs1]; · iexact Hs1
  isplitl [Hs2]; · iexact Hs2
  isplitl [Hc0]; · iexact Hc0
  isplitl [Hc1]; · iexact Hc1
  iexists _; isplitr
  swap; · iexact HO
  ipureintro; intro p hp
  repeat' (rcases Finset.mem_insert.mp hp with hp | hp; · exact .inr (hp ▸ rfl))
  exact .inl hp

end Cert.Proof.Tile
-- ==== Proof.Jobs.lean ====
/-
  The tasks as jobs: what a job takes and brings back, the obligation the launch asks of each, how the launch's
  operands are dealt into the thirty-two jobs and how their results are put together again.
-/
module

public import proofs.«01_k».proof.Proof.Tile
public import Idealize.ShloMosaic.Lib.SparseCore.Ops

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Scan Cert.Proof.Tile

variable {F : FTy → Type} [FloatOps F]

local notation "𝕄" => MT nD τ sig (HIx 1) (Elt F) ℕ UU ℕ
local notation "xV" => (Memref.whole Cert.KernelIdeal.main_v0_scv : Memref Cert.KernelIdeal.sig Kind.scVector Space.hbm Cert.KernelIdeal.S100000x128 EltTy.f32)
local notation "svV" => (Memref.whole Cert.KernelIdeal.main_v2_0_scv : Memref Cert.KernelIdeal.sig Kind.scVector Space.hbm Cert.KernelIdeal.S32x128 EltTy.f32)
local notation "siV" => (Memref.whole Cert.KernelIdeal.main_v2_1_scv : Memref Cert.KernelIdeal.sig Kind.scVector Space.hbm Cert.KernelIdeal.S32x128 EltTy.i32)
local notation "b0V" => (Memref.whole Cert.KernelIdeal.cc1_scratch0 : Memref Cert.KernelIdeal.sig Kind.scVector Space.vmem Cert.KernelIdeal.S320x128 EltTy.f32)
local notation "b1V" => (Memref.whole Cert.KernelIdeal.cc1_scratch1 : Memref Cert.KernelIdeal.sig Kind.scVector Space.vmem Cert.KernelIdeal.S320x128 EltTy.f32)
local notation "btV" => (Memref.whole Cert.KernelIdeal.cc1_scratch2 : Memref Cert.KernelIdeal.sig Kind.scVector Space.vmem Cert.KernelIdeal.S32x128 EltTy.f32)
local notation "rvV" => (Memref.whole Cert.KernelIdeal.cc1_scratch3 : Memref Cert.KernelIdeal.sig Kind.scVector Space.vmem Cert.KernelIdeal.S128 EltTy.f32)
local notation "riV" => (Memref.whole Cert.KernelIdeal.cc1_scratch4 : Memref Cert.KernelIdeal.sig Kind.scVector Space.vmem Cert.KernelIdeal.S128 EltTy.i32)

variable (m : (ℓ : Loc nD τ sig) → Buf (Elt F) ℓ)

/-! ## The jobs -/

/-- Leaf `i` of the depth-`n` halving of share `q`. -/
def leaf : (n : ℕ) → PosShare TreeShare → ℕ → PosShare TreeShare
  | 0, q, _ => q
  | n + 1, q, i => if i < 2 ^ n then leaf n q.left i else leaf n q.right (i - 2 ^ n)

omit [FloatOps F] in
/-- A points-to at a share is its leaves' at once. -/
theorem pointsTo_leaf {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i.val} f
  | 0, q => (bigSep_univ_of_subsingleton (0 : Fin 1) (Φ := fun i : Fin (2 ^ 0) => (ℓ ↦[I]{leaf 0 q i.val} f : sProp 𝕄))).symm
  | n + 1, q => by
    rw [BI.Entails.antisymm (pointsTo_share (PosShare.mem_left_op_right q)).1 (pointsTo_share (PosShare.mem_left_op_right q)).2,
      pointsTo_leaf I f n q.left, pointsTo_leaf I f n q.right,
      bigSep_univ_equiv ((finSumFinEquiv (m := 2 ^ n) (n := 2 ^ n)).trans (finCongr (by omega)))
        (fun i : Fin (2 ^ (n + 1)) => (ℓ ↦[I]{leaf (n + 1) q i.val} f : sProp 𝕄)), bigSep_univ_sum]
    congr 1 <;> refine bigSep_congr fun i _ => ?_
    · show _ = (ℓ ↦[I]{leaf (n + 1) q i.val} f : sProp 𝕄)
      rw [leaf, if_pos i.isLt]
    · show _ = (ℓ ↦[I]{leaf (n + 1) q (2 ^ n + i.val)} f : sProp 𝕄)
      rw [leaf, if_neg (by omega), Nat.add_sub_cancel_left]

/-- Job `w`: a share of the transposed logits, and row `w` of the two result arrays as the launch left them. -/
abbrev job (d : Dev nD) (w : Fin 32) : sProp 𝕄 :=
  iprop((xLoc d ↦{leaf 5 fullShare w.val} AX (m (a0Loc d)))
    ∗ (svLoc d ↦[rowSet w]{fullShare} m (svLoc d)) ∗ (siLoc d ↦[rowSet w]{fullShare} m (siLoc d)))
/-- What it brings back: the rows hold what the worker found. -/
abbrev jobDone (d : Dev nD) (w : Fin 32) : sProp 𝕄 :=
  iprop((xLoc d ↦{leaf 5 fullShare w.val} AX (m (a0Loc d)))
    ∗ (svLoc d ↦[rowSet w]{fullShare} SVal (AX (m (a0Loc d)))) ∗ (siLoc d ↦[rowSet w]{fullShare} SIdx (AX (m (a0Loc d)))))

/-- The job of vector subcore `i` of SparseCore `c`. -/
def jobOf (c : Fin ((K (F := F)).nCore 0)) (i : Fin ((K (F := F)).nSub 0)) : Fin 32 :=
  ⟨16 * c.val + i.val, by have h1 : c.val < 2 := c.isLt; have h2 : i.val < 16 := i.isLt; omega⟩

/-- What the launch's handshakes carry: each SparseCore its sixteen jobs, each subcore its own. -/
def P : (K (F := F)).Pay (nD := nD) (Val := Elt F) (Name := ℕ) (U := UU) where
  st := fun q d c => match q with | 0 => bigSep Finset.univ fun i => job m d (jobOf c i)
  dn := fun q d c => match q with | 0 => bigSep Finset.univ fun i => jobDone m d (jobOf c i)
  go := fun q d c i => match q with | 0 => job m d (jobOf c i)
  td := fun q d c i => match q with | 0 => jobDone m d (jobOf c i)
  x := fun _ _ => iprop(emp)

instance P_storable : (P (F := F) m).IsStorable where
  st q d c := match q with
    | 0 => (inferInstance : BI.Storable (upEmb : UEmb _ 𝕄) (bigSep Finset.univ fun i => job m d (jobOf c i)))
  dn q d c := match q with
    | 0 => (inferInstance : BI.Storable (upEmb : UEmb _ 𝕄) (bigSep Finset.univ fun i => jobDone m d (jobOf c i)))
  go q d c i := match q with | 0 => (inferInstance : BI.Storable (upEmb : UEmb _ 𝕄) (job m d (jobOf c i)))
  td q d c i := match q with | 0 => (inferInstance : BI.Storable (upEmb : UEmb _ 𝕄) (jobDone m d (jobOf c i)))

/-! ## A subcore's own cells and buffers -/

section Own
variable (d : Dev nD) (L : grid1.Coords)

omit [FloatOps F] in
theorem cell_ne {a b : Fin 14} (h : a.val ≠ b.val) : ((thr d L, SemLoc.dma a) : GSem nD τ sig) ≠ (thr d L, SemLoc.dma b) := fun e => by
  have h2 : (SemLoc.dma a : SemLoc sig) = SemLoc.dma b := congrArg Prod.snd e
  injection h2 with h3
  exact h (congrArg Fin.val h3)

omit [FloatOps F] in
/-- The five transfer semaphores are among the subcore's own cells: they, and the rest. -/
theorem ownSems0_tile :
    (ownSems0 (thr d L) : sProp 𝕄)
      = iprop(semVal ((thr d L, SemLoc.dma cc1_scratch5.sem) : GSem nD τ sig) 0
          ∗ semVal ((thr d L, SemLoc.dma cc1_scratch6.sem) : GSem nD τ sig) 0
          ∗ semVal ((thr d L, SemLoc.dma cc1_scratch7.sem) : GSem nD τ sig) 0
          ∗ semVal ((thr d L, SemLoc.dma cc1_scoped0.sem) : GSem nD τ sig) 0
          ∗ semVal ((thr d L, SemLoc.dma cc1_scoped1.sem) : GSem nD τ sig) 0
          ∗ bigSep ((((((ownCells (thr d L)).erase ((thr d L, SemLoc.dma cc1_scratch5.sem) : GSem nD τ sig)).erase ((thr d L, SemLoc.dma cc1_scratch6.sem) : GSem nD τ sig)).erase ((thr d L, SemLoc.dma cc1_scratch7.sem) : GSem nD τ sig)).erase ((thr d L, SemLoc.dma cc1_scoped0.sem) : GSem nD τ sig)).erase ((thr d L, SemLoc.dma cc1_scoped1.sem) : GSem nD τ sig)) fun g => semVal g 0) := by
  unfold SparseCore.Cfg.ownSems0
  rw [SparseCore.bigSep_erase' ((mem_ownCells (g := ((thr d L, SemLoc.dma cc1_scratch5.sem) : GSem nD τ sig))).mpr ⟨rfl, by show (SemLoc.dma cc1_scratch5.sem : SemLoc sig).isScoped .scVector = true; decide⟩),
    SparseCore.bigSep_erase' (Finset.mem_erase.mpr ⟨cell_ne d L (show (cc1_scratch6.sem : Fin 14).val ≠ (cc1_scratch5.sem : Fin 14).val by decide), (mem_ownCells (g := ((thr d L, SemLoc.dma cc1_scratch6.sem) : GSem nD τ sig))).mpr ⟨rfl, by show (SemLoc.dma cc1_scratch6.sem : SemLoc sig).isScoped .scVector = true; decide⟩⟩),
    SparseCore.bigSep_erase' (Finset.mem_erase.mpr ⟨cell_ne d L (show (cc1_scratch7.sem : Fin 14).val ≠ (cc1_scratch6.sem : Fin 14).val by decide), Finset.mem_erase.mpr ⟨cell_ne d L (show (cc1_scratch7.sem : Fin 14).val ≠ (cc1_scratch5.sem : Fin 14).val by decide), (mem_ownCells (g := ((thr d L, SemLoc.dma cc1_scratch7.sem) : GSem nD τ sig))).mpr ⟨rfl, by show (SemLoc.dma cc1_scratch7.sem : SemLoc sig).isScoped .scVector = true; decide⟩⟩⟩),
    SparseCore.bigSep_erase' (Finset.mem_erase.mpr ⟨cell_ne d L (show (cc1_scoped0.sem : Fin 14).val ≠ (cc1_scratch7.sem : Fin 14).val by decide), Finset.mem_erase.mpr ⟨cell_ne d L (show (cc1_scoped0.sem : Fin 14).val ≠ (cc1_scratch6.sem : Fin 14).val by decide), Finset.mem_erase.mpr ⟨cell_ne d L (show (cc1_scoped0.sem : Fin 14).val ≠ (cc1_scratch5.sem : Fin 14).val by decide), (mem_ownCells (g := ((thr d L, SemLoc.dma cc1_scoped0.sem) : GSem nD τ sig))).mpr ⟨rfl, by show (SemLoc.dma cc1_scoped0.sem : SemLoc sig).isScoped .scVector = true; decide⟩⟩⟩⟩),
    SparseCore.bigSep_erase' (Finset.mem_erase.mpr ⟨cell_ne d L (show (cc1_scoped1.sem : Fin 14).val ≠ (cc1_scoped0.sem : Fin 14).val by decide), Finset.mem_erase.mpr ⟨cell_ne d L (show (cc1_scoped1.sem : Fin 14).val ≠ (cc1_scratch7.sem : Fin 14).val by decide), Finset.mem_erase.mpr ⟨cell_ne d L (show (cc1_scoped1.sem : Fin 14).val ≠ (cc1_scratch6.sem : Fin 14).val by decide), Finset.mem_erase.mpr ⟨cell_ne d L (show (cc1_scoped1.sem : Fin 14).val ≠ (cc1_scratch5.sem : Fin 14).val by decide), (mem_ownCells (g := ((thr d L, SemLoc.dma cc1_scoped1.sem) : GSem nD τ sig))).mpr ⟨rfl, by show (SemLoc.dma cc1_scoped1.sem : SemLoc sig).isScoped .scVector = true; decide⟩⟩⟩⟩⟩)]

omit [FloatOps F] in
/-- The five buffers are among the subcore's own: they, at some contents, and the rest. -/
theorem ownBufs_tile :
    (ownBufs (thr d L) : sProp 𝕄)
      = iprop((∃ f, (thr d L).loc cc1_scratch0 ↦{fullShare} f)
          ∗ (∃ f, (thr d L).loc cc1_scratch1 ↦{fullShare} f)
          ∗ (∃ f, (thr d L).loc cc1_scratch2 ↦{fullShare} f)
          ∗ (∃ f, (thr d L).loc cc1_scratch3 ↦{fullShare} f)
          ∗ (∃ f, (thr d L).loc cc1_scratch4 ↦{fullShare} f)
          ∗ bigSep ((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := (Proc.scVector (cV L) (jV L))) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := (Proc.scVector (cV L) (jV L))) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := (Proc.scVector (cV L) (jV L))) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := (Proc.scVector (cV L) (jV L))) (b := (Proc.scVector (cV L) (jV L)).devRef cc1_scratch4) rfl⟩⟩⟩⟩)]

omit [FloatOps F] in
theorem pts_svK (f : Buf (Elt F) (svLoc d)) :
    ((svK L).view.loc (thr d L) ↦[(svK L).view.set]{fullShare} f : sProp 𝕄) = svLoc d ↦[rowSet (widF L)]{fullShare} f := by
  rw [svK_set]
omit [FloatOps F] in
theorem pts_siK (f : Buf (Elt F) (siLoc d)) :
    ((siK L).view.loc (thr d L) ↦[(siK L).view.set]{fullShare} f : sProp 𝕄) = siLoc d ↦[rowSet (widF L)]{fullShare} f := by
  rw [siK_set]

set_option maxHeartbeats 4000000 in
/-- The task as the launch asks it: from its job to the job done, its own cells and buffers kept. -/
theorem tile_body (hF : (K (F := F)).Facts) (O : CellTallies nD τ sig (HIx 1)) (W : Waits sig (HIx 1)) (hO : ∀ g, O g none = 0) :
    iprop(levAts (K (F := F)).L (K (F := F)).lev ∗ emp ∗ job m d (widF L)
        ∗ scopedBufs (thr d L) ∗ scopedSems0 (thr d L) ∗ owes (thr d L) O W)
      ⊢ wp frame (wpE (defs₀ (F := F)) 𝒱₀ (thr d L) none) Set.univ
          (cc1__sc_shard L xV (Memref.isWhole_whole _) svV (Memref.isWhole_whole _) siV (Memref.isWhole_whole _)
            b0V (Memref.isWhole_whole _) b1V (Memref.isWhole_whole _) btV (Memref.isWhole_whole _) rvV (Memref.isWhole_whole _) riV (Memref.isWhole_whole _)
            cc1_scratch5 cc1_scratch6 cc1_scratch7 cc1_scoped0 cc1_scoped1)
          fun _ => iprop(jobDone m d (widF L)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_tile, ownBufs_tile]
  iintro ⟨#Hlv, -, ⟨Hx, Hsv, Hsi⟩, ⟨⟨%f0, Hb0⟩, ⟨%f1, Hb1⟩, ⟨%ft, Hbt⟩, ⟨%fv, Hrv⟩, ⟨%fi, Hri⟩, Hbufs⟩, ⟨Hs0, Hs1, Hs2, Hc0, Hc1, Hsems⟩, HO⟩
  ihave Hmw := (show levAts (K (F := F)).L (K (F := F)).lev ⊢ Transfers.MayWaits (thr d L) (default : HIx 1) O from
    (K (F := F)).mayWaits_none (thr := thr d L) hO) $$ Hlv
  ihave Hsv := (Entails.of_eq (pts_svK (F := F) d L _).symm) $$ Hsv
  ihave Hsi := (Entails.of_eq (pts_siK (F := F) d L _).symm) $$ Hsi
  iapply (wp_wand_r frame)
  isplitl [Hmw Hx Hsv Hsi Hb0 Hb1 Hbt Hrv Hri Hs0 Hs1 Hs2 Hc0 Hc1 HO]
  · iapply (run d L (leaf 5 fullShare (widF L).val) (AX (m (a0Loc d))) O W f0 f1 ft fv fi (m (svLoc d)) (m (siLoc d)))
    isplitl [Hmw]; · iexact Hmw
    isplitl [Hx]; · iexact Hx
    isplitl [Hsv]; · iexact Hsv
    isplitl [Hsi]; · iexact Hsi
    isplitl [Hb0]; · iexact Hb0
    isplitl [Hb1]; · iexact Hb1
    isplitl [Hbt]; · iexact Hbt
    isplitl [Hrv]; · iexact Hrv
    isplitl [Hri]; · iexact Hri
    isplitl [Hs0]; · iexact Hs0
    isplitl [Hs1]; · iexact Hs1
    isplitl [Hs2]; · iexact Hs2
    isplitl [Hc0]; · iexact Hc0
    isplitl [Hc1]; · iexact Hc1
    iexact HO
  iintro %_ ⟨Hx, Hsv, Hsi, Hb0, Hb1, Hbt, Hrv, Hri, Hs0, Hs1, Hs2, Hc0, Hc1, HO⟩
  isplitl [Hx Hsv Hsi]
  · isplitl [Hx]; · iexact Hx
    isplitl [Hsv]; · iapply (Entails.of_eq (pts_svK (F := F) d L _)); iexact Hsv
    iapply (Entails.of_eq (pts_siK (F := F) d L _)); iexact Hsi
  isplitl [Hb0 Hb1 Hbt Hrv Hri Hbufs]
  · isplitl [Hb0]; · iexact Hb0
    isplitl [Hb1]; · iexact Hb1
    isplitl [Hbt]; · iexact Hbt
    isplitl [Hrv]; · iexact Hrv
    isplitl [Hri]; · iexact Hri
    iexact Hbufs
  isplitl [Hs0 Hs1 Hs2 Hc0 Hc1 Hsems]
  · isplitl [Hs0]; · iexact Hs0
    isplitl [Hs1]; · iexact Hs1
    isplitl [Hs2]; · iexact Hs2
    isplitl [Hc0]; · iexact Hc0
    isplitl [Hc1]; · iexact Hc1
    iexact Hsems
  iexact HO

/-! ## The obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_shard (coordsV c s)
          xV (Memref.isWhole_whole _) svV (Memref.isWhole_whole _) siV (Memref.isWhole_whole _)
            b0V (Memref.isWhole_whole _) b1V (Memref.isWhole_whole _) btV (Memref.isWhole_whole _) rvV (Memref.isWhole_whole _) riV (Memref.isWhole_whole _)
            cc1_scratch5 cc1_scratch6 cc1_scratch7 cc1_scoped0 cc1_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Own

theorem vecSplit : (K (F := F)).VecSplit' (P m) 0 := by
  intro d c
  show (bigSep Finset.univ fun i => job m d (jobOf c i)) ⊢ |={Set.univ}=> iprop((bigSep Finset.univ fun i => job m d (jobOf c i))
      ∗ ((bigSep Finset.univ fun i => jobDone m d (jobOf c i)) -∗ bigSep Finset.univ fun i => jobDone m d (jobOf c i)))
  iintro H; imodintro
  isplitl [H]; · iexact H
  iintro H; iexact H

/-! ## The operands dealt, the results put together -/

omit [FloatOps F] in
theorem rows_disjoint : ∀ i ∈ (Finset.univ : Finset (Fin 32)), ∀ j ∈ (Finset.univ : Finset (Fin 32)), i ≠ j → Disjoint (rowSet i) (rowSet j) :=
  fun i _ j _ h => Finset.disjoint_left.mpr fun x hi hj =>
    h (Fin.ext ((Finset.mem_filter.mp hi).2.symm.trans (Finset.mem_filter.mp hj).2))
omit [FloatOps F] in
theorem rows_cover : (Finset.univ : Finset (Fin 32)).biUnion rowSet = Finset.univ :=
  Finset.eq_univ_of_forall fun x => Finset.mem_biUnion.mpr ⟨x 0, Finset.mem_univ _, Finset.mem_filter.mpr ⟨Finset.mem_univ _, rfl⟩⟩

omit [FloatOps F] in
theorem sv_rows (d : Dev nD) (f : Buf (Elt F) (svLoc d)) :
    (svLoc d ↦{fullShare} f : sProp 𝕄) = bigSep Finset.univ fun w : Fin 32 => svLoc d ↦[rowSet w]{fullShare} f := by
  rw [← pointsTo_biUnion Finset.univ (ℓ := svLoc d) rowSet rows_disjoint, rows_cover]; try rfl
omit [FloatOps F] in
theorem si_rows (d : Dev nD) (f : Buf (Elt F) (siLoc d)) :
    (siLoc d ↦{fullShare} f : sProp 𝕄) = bigSep Finset.univ fun w : Fin 32 => siLoc d ↦[rowSet w]{fullShare} f := by
  rw [← pointsTo_biUnion Finset.univ (ℓ := siLoc d) rowSet rows_disjoint, rows_cover]; try rfl

omit [FloatOps F] in
theorem x_shares (d : Dev nD) (f : Buf (Elt F) (xLoc d)) :
    (xLoc d ↦{fullShare} f : sProp 𝕄) = bigSep Finset.univ fun w : Fin 32 => xLoc d ↦{leaf 5 fullShare w.val} f :=
  pointsTo_leaf Finset.univ f 5 fullShare

omit [FloatOps F] in
/-- The subcores of both SparseCores are the thirty-two workers. -/
theorem bigSep_jobs (Φ : Fin 32 → sProp 𝕄) :
    (bigSep Finset.univ fun c : Fin ((K (F := F)).nCore 0) => bigSep Finset.univ fun i : Fin ((K (F := F)).nSub 0) => Φ (jobOf c i))
      = bigSep Finset.univ Φ := by
  rw [bigSep_univ_equiv ((finProdFinEquiv (m := 2) (n := 16)).trans (finCongr (by omega))) Φ, bigSep_univ_prod]
  refine bigSep_congr fun c _ => bigSep_congr fun i _ => congrArg Φ (Fin.ext ?_)
  show 16 * c.val + i.val = i.val + 16 * c.val
  omega

theorem st_eq (d : Dev nD) :
    (bigSep Finset.univ fun c : Fin ((K (F := F)).nCore 0) => (P m).st 0 d c)
      = iprop((xLoc d ↦{fullShare} AX (m (a0Loc d))) ∗ (svLoc d ↦{fullShare} m (svLoc d)) ∗ (siLoc d ↦{fullShare} m (siLoc d))) := by
  refine (bigSep_jobs (job m d)).trans ?_
  rw [bigSep_sep', bigSep_sep', ← sv_rows, ← si_rows, ← x_shares]
theorem dn_eq (d : Dev nD) :
    (bigSep Finset.univ fun c : Fin ((K (F := F)).nCore 0) => (P m).dn 0 d c)
      = iprop((xLoc d ↦{fullShare} AX (m (a0Loc d))) ∗ (svLoc d ↦{fullShare} SVal (AX (m (a0Loc d)))) ∗ (siLoc d ↦{fullShare} SIdx (AX (m (a0Loc d))))) := by
  refine (bigSep_jobs (jobDone m d)).trans ?_
  rw [bigSep_sep', bigSep_sep', ← sv_rows, ← si_rows, ← x_shares]

end Cert.Proof
-- ==== Proof.Merge.lean ====
/-
  The merging kernel: its body run over the staging buffers, and what the pipeline's proof states of them.
-/
module

public import proofs.«01_k».proof.Proof.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionArrays
public import Idealize.ShloMosaic.Lib.Pipeline.FrameBody
public import Idealize.ShloMosaic.Lib.Tactic

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig (HIx 1) (Elt F) ℕ UU ℕ

/-- A memref's buffer on a device's TensorCore: its contents, and it held whole. -/
abbrev Bf (c : Dev nD) {sp : Space} {s : Shape} {e : EltTy} (M : Memref sig .tc sp s e) : Type := Buf (Elt F) (M.view.loc (c : Thread nD τ))
abbrev pt (c : Dev nD) {sp : Space} {s : Shape} {e : EltTy} (M : Memref sig .tc sp s e) (f : Bf (F := F) c M) : sProp 𝕄 :=
  M.view.loc (c : Thread nD τ) ↦{fullShare} f

/-- The pairs a TensorCore may have waited on before its launch `n`. -/
def waited (n : ℕ) (c : Dev nD) : Set (SemLoc sig × HIx 1) :=
  {p | (K (F := F)).lev ((c : Thread nD τ), p.1) p.2 ≤ 8 * n}

/-- What the merge leaves of the candidates' values and indices. -/
def merged (sv : Vec F S32x128 .f32) (si : Vec F S32x128 .i32) (tv : Vec F S1x128 .f32) (ti : Vec F S1x128 .i32) : Vec F S1x128 .i32 :=
  k2_pay1 sv si tv ti

omit [FloatOps F] in
/-- A load of a whole buffer reads its contents. -/
theorem read_all (b : Ref sig .tc) {off : Fin b.ty.shape.rank → ℕ} (inb : ∀ a, off a + b.ty.shape.size a ≤ b.ty.shape.size a)
    (f : b.ty.Contents (Elt F)) (h : off = fun _ => 0) :
    (Memref.whole b : Memref sig .tc _ _ _).view.readAt (Elt F) (Rect.unit off b.ty.shape.size inb).toLoadRect f = f :=
  Memref.readAt_unit_zero (Elt F) b h inb f

omit [FloatOps F] in
/-- A store over a whole buffer leaves what it stores. -/
theorem write_all (b : Ref sig .tc) {off : Fin b.ty.shape.rank → ℕ} (inb : ∀ a, off a + b.ty.shape.size a ≤ b.ty.shape.size a)
    (f w : b.ty.Contents (Elt F)) (h : off = fun _ => 0) :
    (Memref.whole b : Memref sig .tc _ _ _).view.writes (Elt F) f [⟨Rect.unit off b.ty.shape.size inb, w⟩] = w :=
  Memref.write_access_unit_zero_univ (Elt F) b h inb f w

theorem mergeRun (c : Dev nD)
    (tv : Vec F S1x128 .f32) (ti : Vec F S1x128 .i32) (sv : Vec F S32x128 .f32) (si : Vec F S32x128 .i32) (o : Vec F S1x128 .i32)
    (E : Set ℕ) (Q : PUnit → sProp 𝕄) :
    iprop(pt c (stage2_0 0) tv ∗ pt c (stage2_1 0) ti ∗ pt c (stage2_2 0) sv ∗ pt c (stage2_3 0) si ∗ pt c (stage2_4 0) o
        ∗ (iprop(pt c (stage2_0 0) tv ∗ pt c (stage2_1 0) ti ∗ pt c (stage2_2 0) sv ∗ pt c (stage2_3 0) si ∗ pt c (stage2_4 0) (merged sv si tv ti)) -∗ Q ⟨⟩))
      ⊢ wp frame (wpE (defs₀ (F := F)) Variants.none c none) E
          (cc2__merge_body (stage2_0 0) (hstage2_0 0) (stage2_1 0) (hstage2_1 0) (stage2_2 0) (hstage2_2 0) (stage2_3 0) (hstage2_3 0) (stage2_4 0) (hstage2_4 0)) Q := by
  rw [cc2__merge_body_eq_skeleton]
  unfold cc2__merge_body_skel
  iintro ⟨H0, H1, H2, H3, H4, Hk⟩
  sl_exec
  sl_step
  have z : (![0, 0] : Fin 2 → ℕ) = fun _ => 0 := by decide
  have e : (stage2_4 0).view.writes (Elt F) o
      [⟨(Rect.unit (s := S1x128) ![0, 0] S1x128.size inb_S1x128_S1x128_0_0), k2_pay1
        ((stage2_2 0).view.readAt (Elt F) (Rect.unit (s := S32x128) ![0, 0] S32x128.size inb_S32x128_S32x128_0_0).toLoadRect sv)
        ((stage2_3 0).view.readAt (Elt F) (Rect.unit (s := S32x128) ![0, 0] S32x128.size inb_S32x128_S32x128_0_0).toLoadRect si)
        ((stage2_0 0).view.readAt (Elt F) (Rect.unit (s := S1x128) ![0, 0] S1x128.size inb_S1x128_S1x128_0_0).toLoadRect tv)
        ((stage2_1 0).view.readAt (Elt F) (Rect.unit (s := S1x128) ![0, 0] S1x128.size inb_S1x128_S1x128_0_0).toLoadRect ti)⟩] = merged sv si tv ti :=
    (write_all cc2_stg4_0 _ _ _ z).trans (by
      unfold merged
      exact congr (congr (congr (congrArg k2_pay1 (read_all cc2_stg2_0 _ _ z)) (read_all cc2_stg3_0 _ _ z)) (read_all cc2_stg0_0 _ _ z)) (read_all cc2_stg1_0 _ _ z))
  rw [e]
  iapply Hk
  isplitl [H0]; · iexact H0
  isplitl [H1]; · iexact H1
  isplitl [H2]; · iexact H2
  isplitl [H3]; · iexact H3
  iexact H4

/-! ## The pipeline's proof data -/

variable (tv : Dev nD → Vec F S1x128 .f32) (ti : Dev nD → Vec F S1x128 .i32) (sv : Dev nD → Vec F S32x128 .f32)
  (si : Dev nD → Vec F S32x128 .i32) (o : Dev nD → Vec F S1x128 .i32)

/-- The scoped buffers the merge does not stage, at anything. -/
abbrev rest2 (c : Dev nD) : sProp 𝕄 := Pipeline.scopedRest (Ix := HIx 1) (Name := ℕ) (U := UU) (Lvl := ℕ) (Val := Elt F) spec2 c

/-- The merge's proof data: the four operands as they are, the result what `merged` makes of them. -/
def dat2 (c : Dev nD) : Dat τ (Elt F) (HIx 1) ℕ UU ℕ cfg2 c where
  A w := match w with
    | ⟨0, _⟩ => tv c
    | ⟨1, _⟩ => ti c
    | ⟨2, _⟩ => sv c
    | ⟨3, _⟩ => si c
    | ⟨4, _⟩ => o c
  after w _ := match w with
    | ⟨0, _⟩ => tv c
    | ⟨1, _⟩ => ti c
    | ⟨2, _⟩ => sv c
    | ⟨3, _⟩ => si c
    | ⟨4, _⟩ => merged (sv c) (si c) (tv c) (ti c)
  Φ _ := rest2 c
  q _ := fullShare
  owed _ := (K (F := F)).Otc c 1
  recorded _ := waited (F := F) 1 c

theorem before2_0 (c : Dev nD) (d) : (dat2 tv ti sv si o c).before 0 t2_0 d = tv c := by
  unfold Dat.before; rw [if_pos (by decide)]
  show ((cfg2.win 0).blk t2_0).view.read (Elt F) (tv c) = tv c
  exact Memref.read_access_unit_zero (Elt F) main_v1_0 (off := fun a => 0 * main_v1_0.ty.shape.size a) (funext fun a => Nat.zero_mul _) _ (tv c)
theorem before2_1 (c : Dev nD) (d) : (dat2 tv ti sv si o c).before 1 t2_0 d = ti c := by
  unfold Dat.before; rw [if_pos (by decide)]
  show ((cfg2.win 1).blk t2_0).view.read (Elt F) (ti c) = ti c
  exact Memref.read_access_unit_zero (Elt F) main_v1_1 (off := fun a => 0 * main_v1_1.ty.shape.size a) (funext fun a => Nat.zero_mul _) _ (ti c)
theorem before2_2 (c : Dev nD) (d) : (dat2 tv ti sv si o c).before 2 t2_0 d = sv c := by
  unfold Dat.before; rw [if_pos (by decide)]
  show ((cfg2.win 2).blk t2_0).view.read (Elt F) (sv c) = sv c
  exact Memref.read_access_unit_zero (Elt F) main_v2_0 (off := fun a => 0 * main_v2_0.ty.shape.size a) (funext fun a => Nat.zero_mul _) _ (sv c)
theorem before2_3 (c : Dev nD) (d) : (dat2 tv ti sv si o c).before 3 t2_0 d = si c := by
  unfold Dat.before; rw [if_pos (by decide)]
  show ((cfg2.win 3).blk t2_0).view.read (Elt F) (si c) = si c
  exact Memref.read_access_unit_zero (Elt F) main_v2_1 (off := fun a => 0 * main_v2_1.ty.shape.size a) (funext fun a => Nat.zero_mul _) _ (si c)

theorem merge_obligation (c : Dev nD) : BodyObligation (dat2 tv ti sv si o c) (defs₀ (F := F)) 𝒱₀ none Set.univ := fun t => by
  obtain rfl := fin_N2 t
  rw [bigSep_W2, bigSep_W2]
  simp only [owns_whole_eq]
  rw [show (dat2 tv ti sv si o c).Φ t2_0.castSucc = rest2 c from rfl, show (dat2 tv ti sv si o c).Φ t2_0.succ = rest2 c from rfl,
    show (dat2 tv ti sv si o c).owesAt none t2_0.succ = (dat2 tv ti sv si o c).owesAt none t2_0.castSucc from rfl]
  iintro ⟨HΦ, HO, ⟨%d0, %f0, %e0, H0⟩, ⟨%d1, %f1, %e1, H1⟩, ⟨%d2, %f2, %e2, H2⟩, ⟨%d3, %f3, %e3, H3⟩, ⟨%d4, %f4, -, H4⟩⟩
  rw [before2_0] at e0
  rw [before2_1] at e1
  rw [before2_2] at e2
  rw [before2_3] at e3
  subst e0; subst e1; subst e2; subst e3
  iapply (mergeRun c (tv c) (ti c) (sv c) (si c) f4 Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HO]; · iexact HO
  isplitl [H0]; · iexists _; isplitr; swap; (· iexact H0); ipureintro; dsimp only [dat2]
  isplitl [H1]; · iexists _; isplitr; swap; (· iexact H1); ipureintro; dsimp only [dat2]
  isplitl [H2]; · iexists _; isplitr; swap; (· iexact H2); ipureintro; dsimp only [dat2]
  isplitl [H3]; · iexists _; isplitr; swap; (· iexact H3); ipureintro; dsimp only [dat2]
  iexists _; isplitr; swap; (· iexact H4); ipureintro; dsimp only [dat2]

end Cert.Proof

end
-- ==== Proof.Argmax.lean ====
/-
  The TensorCore's share of the rows: its body run over the staging buffers, and what the pipeline's proof states of them
  at every point of the grid.
-/
module

public import proofs.«01_k».proof.Proof.Merge

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.Proof.Scan

variable {F : FTy → Type} [FloatOps F]

local notation "𝕄" => MT nD τ sig (HIx 1) (Elt F) ℕ UU ℕ
local notation "s0V" => (Memref.whole Cert.KernelIdeal.cc0_scratch0 : Memref Cert.KernelIdeal.sig Kind.tc Space.vmem Cert.KernelIdeal.S1x128 EltTy.f32)
local notation "s1V" => (Memref.whole Cert.KernelIdeal.cc0_scratch1 : Memref Cert.KernelIdeal.sig Kind.tc Space.vmem Cert.KernelIdeal.S1x128 EltTy.i32)

/-! ## The body at one point -/

/-- Whether a point is the first, and whether it is a later one, as the body asks. -/
abbrev isFirst (i : grid0.Coords) : Prop := Scalar.cmpi .ne (Scalar.extui (Scalar.cmpi .eq (BitVec.ofNat 32 (i 0).val) 0#32) : BitVec 32) 0#32 = 1#1
abbrev isLater (i : grid0.Coords) : Prop := Scalar.cmpi .ne (Scalar.extui (Scalar.cmpi .sgt (BitVec.ofNat 32 (i 0).val) 0#32) : BitVec 32) 0#32 = 1#1

/-! The running maximum, its index, and the two results: a load reads what is there, a store leaves what it stores. -/

omit [FloatOps F] in
theorem load_s0 (v : Vec F S1x128 .f32) : (s0V).view.readAt (Elt F) (Rect.unit (s := S1x128) ![0, 0] S1x128.size inb_S1x128_S1x128_0_0).toLoadRect v = v :=
  read_all cc0_scratch0 _ v (by decide)
omit [FloatOps F] in
theorem store_s0 (v u : Vec F S1x128 .f32) : (s0V).view.writes (Elt F) v [⟨(Rect.unit (s := S1x128) ![0, 0] S1x128.size inb_S1x128_S1x128_0_0), u⟩] = u :=
  write_all cc0_scratch0 _ v u (by decide)
omit [FloatOps F] in
theorem load_s1 (v : Vec F S1x128 .i32) : (s1V).view.readAt (Elt F) (Rect.unit (s := S1x128) ![0, 0] S1x128.size inb_S1x128_S1x128_0_0).toLoadRect v = v :=
  read_all cc0_scratch1 _ v (by decide)
omit [FloatOps F] in
theorem store_s1 (v u : Vec F S1x128 .i32) : (s1V).view.writes (Elt F) v [⟨(Rect.unit (s := S1x128) ![0, 0] S1x128.size inb_S1x128_S1x128_0_0), u⟩] = u :=
  write_all cc0_scratch1 _ v u (by decide)
omit [FloatOps F] in
theorem load_o0 (v : Vec F S1x128 .f32) : (stage0_1 0).view.readAt (Elt F) (Rect.unit (s := S1x128) ![0, 0] S1x128.size inb_S1x128_S1x128_0_0).toLoadRect v = v :=
  read_all cc0_stg1_0 _ v (by decide)
omit [FloatOps F] in
theorem store_o0 (v u : Vec F S1x128 .f32) : (stage0_1 0).view.writes (Elt F) v [⟨(Rect.unit (s := S1x128) ![0, 0] S1x128.size inb_S1x128_S1x128_0_0), u⟩] = u :=
  write_all cc0_stg1_0 _ v u (by decide)
omit [FloatOps F] in
theorem load_o1 (v : Vec F S1x128 .i32) : (stage0_2 0).view.readAt (Elt F) (Rect.unit (s := S1x128) ![0, 0] S1x128.size inb_S1x128_S1x128_0_0).toLoadRect v = v :=
  read_all cc0_stg2_0 _ v (by decide)
omit [FloatOps F] in
theorem store_o1 (v u : Vec F S1x128 .i32) : (stage0_2 0).view.writes (Elt F) v [⟨(Rect.unit (s := S1x128) ![0, 0] S1x128.size inb_S1x128_S1x128_0_0), u⟩] = u :=
  write_all cc0_stg2_0 _ v u (by decide)

/-- The first point: the block's maximum and its index become the running ones. -/
theorem firstRun (c : Dev nD) (i : grid0.Coords) (M : Memref sig .tc .vmem S6096x128 .f32) (hM : M.IsWhole) (f : Bf (F := F) c M) (x : Vec F S6096x128 .f32)
    (hx : M.view.readAt (Elt F) (Rect.unit (s := S6096x128) ![0, 0] S6096x128.size inb_S6096x128_S6096x128_0_0).toLoadRect f = x)
    (h1 : isFirst i) (h2 : ¬ isLater i) (h3 : ¬ k0_cond3 i = 1#1)
    (v : Vec F S1x128 .f32) (w : Vec F S1x128 .i32) (E : Set ℕ) (Q : PUnit → sProp 𝕄) :
    iprop(pt c M f ∗ pt c s0V v ∗ pt c s1V w
        ∗ (iprop(pt c M f ∗ pt c s0V (k0_pay4 x) ∗ pt c s1V (k0_pay5 i x)) -∗ Q ⟨⟩))
      ⊢ wp frame (wpE (defs₀ (F := F)) Variants.none c none) E
          (cc0__tc_argmax_body i M hM (stage0_1 0) (hstage0_1 0) (stage0_2 0) (hstage0_2 0) s0V (Memref.isWhole_whole _) s1V (Memref.isWhole_whole _)) Q := by
  rw [cc0__tc_argmax_body_eq_skeleton]
  unfold cc0__tc_argmax_body_skel
  iintro ⟨H0, H1, H2, Hk⟩
  sl_exec
  sl_step
  rw [store_s0, store_s1]
  iapply Hk
  isplitl [H0]; · iexact H0
  isplitl [H1]; · iexact H1
  iexact H2

/-- A later point that is not the last: the running maximum gives way to a larger one. -/
theorem laterRun (c : Dev nD) (i : grid0.Coords) (M : Memref sig .tc .vmem S6096x128 .f32) (hM : M.IsWhole) (f : Bf (F := F) c M) (x : Vec F S6096x128 .f32)
    (hx : M.view.readAt (Elt F) (Rect.unit (s := S6096x128) ![0, 0] S6096x128.size inb_S6096x128_S6096x128_0_0).toLoadRect f = x)
    (h1 : ¬ isFirst i) (h2 : isLater i) (h3 : ¬ k0_cond3 i = 1#1)
    (v : Vec F S1x128 .f32) (w : Vec F S1x128 .i32) (E : Set ℕ) (Q : PUnit → sProp 𝕄) :
    iprop(pt c M f ∗ pt c s0V v ∗ pt c s1V w
        ∗ (iprop(pt c M f ∗ pt c s0V (k0_pay8 x v v) ∗ pt c s1V (k0_pay7 i x v w)) -∗ Q ⟨⟩))
      ⊢ wp frame (wpE (defs₀ (F := F)) Variants.none c none) E
          (cc0__tc_argmax_body i M hM (stage0_1 0) (hstage0_1 0) (stage0_2 0) (hstage0_2 0) s0V (Memref.isWhole_whole _) s1V (Memref.isWhole_whole _)) Q := by
  rw [cc0__tc_argmax_body_eq_skeleton]
  unfold cc0__tc_argmax_body_skel
  iintro ⟨H0, H1, H2, Hk⟩
  sl_exec
  sl_step
  rw [load_s0, load_s1, store_s0, store_s1]
  iapply Hk
  isplitl [H0]; · iexact H0
  isplitl [H1]; · iexact H1
  iexact H2

/-- The last point: besides, the running maximum and its index become the results. -/
theorem lastRun (c : Dev nD) (i : grid0.Coords) (M : Memref sig .tc .vmem S6096x128 .f32) (hM : M.IsWhole) (f : Bf (F := F) c M) (x : Vec F S6096x128 .f32)
    (hx : M.view.readAt (Elt F) (Rect.unit (s := S6096x128) ![0, 0] S6096x128.size inb_S6096x128_S6096x128_0_0).toLoadRect f = x)
    (h1 : ¬ isFirst i) (h2 : isLater i) (h3 : k0_cond3 i = 1#1)
    (v : Vec F S1x128 .f32) (w : Vec F S1x128 .i32) (a : Vec F S1x128 .f32) (b : Vec F S1x128 .i32) (E : Set ℕ) (Q : PUnit → sProp 𝕄) :
    iprop(pt c M f ∗ pt c s0V v ∗ pt c s1V w ∗ pt c (stage0_1 0) a ∗ pt c (stage0_2 0) b
        ∗ (iprop(pt c M f ∗ pt c s0V (k0_pay8 x v v) ∗ pt c s1V (k0_pay7 i x v w) ∗ pt c (stage0_1 0) (k0_pay8 x v v) ∗ pt c (stage0_2 0) (k0_pay7 i x v w)) -∗ Q ⟨⟩))
      ⊢ wp frame (wpE (defs₀ (F := F)) Variants.none c none) E
          (cc0__tc_argmax_body i M hM (stage0_1 0) (hstage0_1 0) (stage0_2 0) (hstage0_2 0) s0V (Memref.isWhole_whole _) s1V (Memref.isWhole_whole _)) Q := by
  rw [cc0__tc_argmax_body_eq_skeleton]
  unfold cc0__tc_argmax_body_skel
  iintro ⟨H0, H1, H2, H3, H4, Hk⟩
  sl_exec
  sl_step
  have e1 : lastRun.sl.v23 x v = k0_pay8 x v v := by
    unfold lastRun.sl.v23 lastRun.sl.H1_1 View.readCov
    rw [store_s0, load_s0, load_s0]
  have e2 : lastRun.sl.v25 i x v w = k0_pay7 i x v w := by
    unfold lastRun.sl.v25 lastRun.sl.H2_1 View.readCov
    rw [store_s1, load_s1, load_s0, load_s1]
  rw [e1, e2, store_o0, store_o1]
  unfold lastRun.sl.H1_1 lastRun.sl.H2_1
  rw [load_s0, load_s1, store_s0, store_s1]
  iapply Hk
  isplitl [H0]; · iexact H0
  isplitl [H1]; · iexact H1
  isplitl [H2]; · iexact H2
  isplitl [H3]; · iexact H3
  iexact H4

/-! ## The values at every point -/

/-- Point `n` of the grid, the number reduced so that there is one. -/
def gp (n : ℕ) : Fin cfg0.N := ⟨n % 8, Nat.mod_lt _ (by decide)⟩

/-- The `n`-th block of 6096 rows. -/
def blk (A : Vec F S100000x128 .f32) (n : ℕ) : Vec F S6096x128 .f32 := fun j => A (cell (6096 * n + (j 0).val) (j 1).val)

/-- The running maximum and its index after point `n`. -/
def acc (A : Vec F S100000x128 .f32) : ℕ → Vec F S1x128 .f32 × Vec F S1x128 .i32
  | 0 => (k0_pay4 (blk A 0), k0_pay5 (cfg0.grid.coords (gp 0)) (blk A 0))
  | n + 1 => (k0_pay8 (blk A (n + 1)) (acc A n).1 (acc A n).1,
      k0_pay7 (cfg0.grid.coords (gp (n + 1))) (blk A (n + 1)) (acc A n).1 (acc A n).2)

/-- The TensorCore's results. -/
def TVal (A : Vec F S100000x128 .f32) : Vec F S1x128 .f32 := (acc A 7).1
def TIdx (A : Vec F S100000x128 .f32) : Vec F S1x128 .i32 := (acc A 7).2

/-! ## The pipeline's proof data -/

variable (A : Dev nD → Vec F S100000x128 .f32) (tv₀ : Dev nD → Vec F S1x128 .f32) (ti₀ : Dev nD → Vec F S1x128 .i32)

/-- The scoped buffers that neither this pipeline stages nor its body reads, at anything. -/
def rest0 (c : Dev nD) : sProp 𝕄 :=
  iprop((∃ f, pt (F := F) c (Memref.whole cc2_stg0_0) f) ∗ (∃ f, pt (F := F) c (Memref.whole cc2_stg1_0) f) ∗ (∃ f, pt (F := F) c (Memref.whole cc2_stg2_0) f)
    ∗ (∃ f, pt (F := F) c (Memref.whole cc2_stg3_0) f) ∗ (∃ f, pt (F := F) c (Memref.whole cc2_stg4_0) f))

/-- Between the points: the running maximum and its index as the points so far left them. -/
def running (c : Dev nD) (n : ℕ) : sProp 𝕄 :=
  iprop((∃ v w, ⌜∀ k, n = k + 1 → v = (acc (A c) k).1 ∧ w = (acc (A c) k).2⌝ ∗ pt c s0V v ∗ pt c s1V w) ∗ rest0 c)

/-- The proof data: the block as fetched, the two results as the last point leaves them. -/
def dat0 (c : Dev nD) : Dat τ (Elt F) (HIx 1) ℕ UU ℕ cfg0 c where
  A w := match w with
    | ⟨0, _⟩ => A c
    | ⟨1, _⟩ => tv₀ c
    | ⟨2, _⟩ => ti₀ c
  after w t := match w with
    | ⟨0, _⟩ => blk (A c) t.val
    | ⟨1, _⟩ => TVal (A c)
    | ⟨2, _⟩ => TIdx (A c)
  Φ t := running A c t.val
  q _ := fullShare
  owed _ := (K (F := F)).Otc c 0
  recorded _ := waited (F := F) 0 c

theorem clip0_0 : ∀ (t : Fin cfg0.N) (a : Fin 2), (cfg0.win 0).clip (cfg0.grid.coords t) a = none := by decide +kernel

theorem coords0 : ∀ t : Fin cfg0.N, (cfg0.grid.coords t 0).val = t.val := by decide +kernel

theorem off0_0 : ∀ t : Fin cfg0.N, (cfg0.win 0).index t = ![t.val, 0] := by decide +kernel

theorem before0_0 (c : Dev nD) (t : Fin cfg0.N) (d) : (dat0 A tv₀ ti₀ c).before 0 t d = blk (A c) t.val := by
  unfold Dat.before
  rw [if_pos (fetch0_0 t)]
  funext j
  have hm : (cfg0.win 0).moved (cfg0.grid.coords t) j = true :=
    ((cfg0.win 0).moved_iff _ j).mpr fun a => by have := (j a).isLt; unfold Window.xsize; rw [clip0_0 t a]; exact this
  unfold Dat.fetched Window.fill
  rw [dif_pos hm]
  unfold Dat.blockOf
  rw [View.read_apply]
  have h0 := congrFun (off0_0 t) 0
  have h1 := congrFun (off0_0 t) 1
  have ht : t.val < 8 := t.isLt
  have hj0 : (j 0).val < 6096 := (j 0).isLt
  have hj1 : (j 1).val < 128 := (j 1).isLt
  refine congrArg (A c) (funext fun a => Fin.ext ?_)
  fin_cases a
  · show (cfg0.win 0).index t 0 * 6096 + 1 * (j 0).val = (6096 * t.val + (j 0).val) % 100000
    rw [h0, Nat.mod_eq_of_lt (by omega)]
    show t.val * 6096 + 1 * (j 0).val = _
    omega
  · show (cfg0.win 0).index t 1 * 128 + 1 * (j 1).val = (j 1).val % 128
    rw [h1, Nat.mod_eq_of_lt (by omega)]
    show 0 * 128 + 1 * (j 1).val = _
    omega

/-! ## The body's obligation -/

theorem first_iff : ∀ t : Fin cfg0.N, isFirst (cfg0.grid.coords t) ↔ t.val = 0 := by decide +kernel
theorem later_iff : ∀ t : Fin cfg0.N, isLater (cfg0.grid.coords t) ↔ t.val ≠ 0 := by decide +kernel
theorem last_iff : ∀ t : Fin cfg0.N, k0_cond3 (cfg0.grid.coords t) = 1#1 ↔ t.val = 7 := by decide +kernel
theorem idle_iff : ∀ t : Fin cfg0.N, (!(k0_cond3 (cfg0.grid.coords t) == 1#1)) = true ↔ t.val ≠ 7 := by decide +kernel
theorem gp_self (t : Fin cfg0.N) : gp t.val = t := Fin.ext (Nat.mod_eq_of_lt t.isLt)

/-- The running pair after a point, in the point's own words. -/
theorem acc_first (B : Vec F S100000x128 .f32) (t : Fin cfg0.N) (h : t.val = 0) :
    acc B 0 = (k0_pay4 (blk B t.val), k0_pay5 (cfg0.grid.coords t) (blk B t.val)) := by
  have hg : gp 0 = t := by rw [← h]; exact gp_self t
  rw [h, ← hg]; rfl
theorem acc_later (B : Vec F S100000x128 .f32) (t : Fin cfg0.N) (k : ℕ) (h : t.val = k + 1) :
    acc B (k + 1) = (k0_pay8 (blk B t.val) (acc B k).1 (acc B k).1, k0_pay7 (cfg0.grid.coords t) (blk B t.val) (acc B k).1 (acc B k).2) := by
  have hg : gp (k + 1) = t := by rw [← h]; exact gp_self t
  rw [h, ← hg, acc]

/-- The block's buffer, read whole: from what it is owned at, and back. -/
theorem block_in (c : Dev nD) (s : Fin 2) (x : Vec F S6096x128 .f32) :
    (owns c (stage0_0 s) fullShare x : sProp 𝕄) ⊢ iprop(∃ f, ⌜(stage0_0 s).view.readAt (Elt F) (Rect.unit (s := S6096x128) ![0, 0] S6096x128.size inb_S6096x128_S6096x128_0_0).toLoadRect f = x⌝ ∗ pt c (stage0_0 s) f) := by
  match s with
  | ⟨0, _⟩ =>
    show (owns c (Memref.whole cc0_stg0_0) fullShare x : sProp 𝕄) ⊢ _
    rw [owns_whole_eq]
    iintro ⟨%f, %e, H⟩
    iexists f; isplitr; swap; (· iexact H)
    ipureintro; exact (read_all cc0_stg0_0 _ f (by decide)).trans e
  | ⟨1, _⟩ =>
    show (owns c (Memref.whole cc0_stg0_1) fullShare x : sProp 𝕄) ⊢ _
    rw [owns_whole_eq]
    iintro ⟨%f, %e, H⟩
    iexists f; isplitr; swap; (· iexact H)
    ipureintro; exact (read_all cc0_stg0_1 _ f (by decide)).trans e

theorem block_out (c : Dev nD) (s : Fin 2) (x : Vec F S6096x128 .f32) (f : Bf (F := F) c (stage0_0 s))
    (h : (stage0_0 s).view.readAt (Elt F) (Rect.unit (s := S6096x128) ![0, 0] S6096x128.size inb_S6096x128_S6096x128_0_0).toLoadRect f = x) :
    pt c (stage0_0 s) f ⊢ (owns c (stage0_0 s) fullShare x : sProp 𝕄) := by
  match s with
  | ⟨0, _⟩ =>
    show _ ⊢ (owns c (Memref.whole cc0_stg0_0) fullShare x : sProp 𝕄)
    rw [owns_whole_eq]
    iintro H
    iexists f; isplitr; swap; (· iexact H)
    ipureintro; exact (read_all cc0_stg0_0 _ f (by decide)).symm.trans h
  | ⟨1, _⟩ =>
    show _ ⊢ (owns c (Memref.whole cc0_stg0_1) fullShare x : sProp 𝕄)
    rw [owns_whole_eq]
    iintro H
    iexists f; isplitr; swap; (· iexact H)
    ipureintro; exact (read_all cc0_stg0_1 _ f (by decide)).symm.trans h

/-- The body's step at a point whatever the buffers in turn are: the running pair steps, and at the last point the
    results are it. -/
theorem step (c : Dev nD) (t : Fin cfg0.N) (s0 : Fin 2) (s1 s2 : Fin 1) (ht : t.val ≠ 7) (X : sProp 𝕄) :
    iprop(running A c t.val ∗ X ∗ owns c (stage0_0 s0) fullShare (blk (A c) t.val))
      ⊢ wp frame (wpE (defs₀ (F := F)) 𝒱₀ c none) Set.univ
          (cc0__tc_argmax_body (cfg0.grid.coords t) (stage0_0 s0) (hstage0_0 s0) (stage0_1 s1) (hstage0_1 s1) (stage0_2 s2) (hstage0_2 s2) s0V (Memref.isWhole_whole _) s1V (Memref.isWhole_whole _))
          fun _ => iprop(running A c (t.val + 1) ∗ X ∗ owns c (stage0_0 s0) fullShare (blk (A c) t.val)) := by
  obtain rfl : s1 = 0 := Subsingleton.elim _ _
  obtain rfl : s2 = 0 := Subsingleton.elim _ _
  have h3 : ¬ k0_cond3 (cfg0.grid.coords t) = 1#1 := fun h => ht ((last_iff t).mp h)
  unfold running
  iintro ⟨⟨⟨%v, %w, %e, Hv, Hw⟩, Hr⟩, HX, Hb⟩
  ihave Hb := (block_in c s0 _) $$ Hb
  icases Hb with ⟨%f, %hf, Hb⟩
  by_cases h0 : t.val = 0
  · iapply (firstRun c (cfg0.grid.coords t) (stage0_0 s0) (hstage0_0 s0) f (blk (A c) t.val) hf ((first_iff t).mpr h0) (fun h => (later_iff t).mp h h0) h3 v w Set.univ _)
    isplitl [Hb]; · iexact Hb
    isplitl [Hv]; · iexact Hv
    isplitl [Hw]; · iexact Hw
    iintro ⟨Hb, Hv, Hw⟩
    isplitl [Hv Hw Hr]
    · isplitr [Hr]; swap; · iexact Hr
      iexists _; iexists _
      isplitr; swap
      · isplitl [Hv]; · iexact Hv
        iexact Hw
      ipureintro
      intro k hk
      obtain rfl : k = 0 := by omega
      constructor
      · rw [acc_first (A c) t h0]
      · rw [acc_first (A c) t h0]
    isplitl [HX]; · iexact HX
    iapply (block_out c s0 _ f hf); iexact Hb
  · obtain ⟨k, hk⟩ := Nat.exists_eq_succ_of_ne_zero h0
    obtain ⟨rfl, rfl⟩ := e k hk
    iapply (laterRun c (cfg0.grid.coords t) (stage0_0 s0) (hstage0_0 s0) f (blk (A c) t.val) hf (fun h => h0 ((first_iff t).mp h)) ((later_iff t).mpr h0) h3 _ _ Set.univ _)
    isplitl [Hb]; · iexact Hb
    isplitl [Hv]; · iexact Hv
    isplitl [Hw]; · iexact Hw
    iintro ⟨Hb, Hv, Hw⟩
    isplitl [Hv Hw Hr]
    · isplitr [Hr]; swap; · iexact Hr
      iexists _; iexists _
      isplitr; swap
      · isplitl [Hv]; · iexact Hv
        iexact Hw
      ipureintro
      intro j hj
      obtain rfl : j = k + 1 := by omega
      rw [acc_later (A c) t k hk]; exact ⟨rfl, rfl⟩
    isplitl [HX]; · iexact HX
    iapply (block_out c s0 _ f hf); iexact Hb

theorem step_last (c : Dev nD) (t : Fin cfg0.N) (s0 : Fin 2) (s1 s2 : Fin 1) (ht : t.val = 7) (X : sProp 𝕄)
    (a : Vec F S1x128 .f32) (b : Vec F S1x128 .i32) :
    iprop(running A c t.val ∗ X ∗ owns c (stage0_0 s0) fullShare (blk (A c) t.val) ∗ owns c (stage0_1 s1) fullShare a ∗ owns c (stage0_2 s2) fullShare b)
      ⊢ wp frame (wpE (defs₀ (F := F)) 𝒱₀ c none) Set.univ
          (cc0__tc_argmax_body (cfg0.grid.coords t) (stage0_0 s0) (hstage0_0 s0) (stage0_1 s1) (hstage0_1 s1) (stage0_2 s2) (hstage0_2 s2) s0V (Memref.isWhole_whole _) s1V (Memref.isWhole_whole _))
          fun _ => iprop(running A c (t.val + 1) ∗ X ∗ owns c (stage0_0 s0) fullShare (blk (A c) t.val)
            ∗ owns c (stage0_1 s1) fullShare (TVal (A c)) ∗ owns c (stage0_2 s2) fullShare (TIdx (A c))) := by
  obtain rfl : s1 = 0 := Subsingleton.elim _ _
  obtain rfl : s2 = 0 := Subsingleton.elim _ _
  unfold running
  rw [owns_whole_eq, owns_whole_eq, owns_whole_eq, owns_whole_eq]
  iintro ⟨⟨⟨%v, %w, %e, Hv, Hw⟩, Hr⟩, HX, Hb, ⟨%fa, -, Ha⟩, ⟨%fb, -, Ho⟩⟩
  ihave Hb := (block_in c s0 _) $$ Hb
  icases Hb with ⟨%f, %hf, Hb⟩
  obtain ⟨rfl, rfl⟩ := e 6 ht
  have h0 : t.val ≠ 0 := by omega
  have e1 : k0_pay8 (blk (A c) t.val) (acc (A c) 6).1 (acc (A c) 6).1 = TVal (A c) := by unfold TVal; rw [acc_later (A c) t 6 ht]
  have e2 : k0_pay7 (cfg0.grid.coords t) (blk (A c) t.val) (acc (A c) 6).1 (acc (A c) 6).2 = TIdx (A c) := by unfold TIdx; rw [acc_later (A c) t 6 ht]
  iapply (lastRun c (cfg0.grid.coords t) (stage0_0 s0) (hstage0_0 s0) f (blk (A c) t.val) hf (fun h => h0 ((first_iff t).mp h)) ((later_iff t).mpr h0) ((last_iff t).mpr ht) _ _ fa fb Set.univ _)
  isplitl [Hb]; · iexact Hb
  isplitl [Hv]; · iexact Hv
  isplitl [Hw]; · iexact Hw
  isplitl [Ha]; · iexact Ha
  isplitl [Ho]; · iexact Ho
  rw [e1, e2]
  iintro ⟨Hb, Hv, Hw, Ha, Ho⟩
  isplitl [Hv Hw Hr]
  · isplitr [Hr]; swap; · iexact Hr
    iexists _; iexists _
    isplitr; swap
    · isplitl [Hv]; · iexact Hv
      iexact Hw
    ipureintro
    intro j hj
    obtain rfl : j = 7 := by omega
    exact ⟨rfl, rfl⟩
  isplitl [HX]; · iexact HX
  isplitl [Hb]; · iapply (block_out c s0 _ f hf); iexact Hb
  isplitl [Ha]
  · iexists _; isplitr; swap; (· iexact Ha); ipureintro; rfl
  iexists _; isplitr; swap; (· iexact Ho); ipureintro; rfl

theorem argmax_obligation (c : Dev nD) : BodyObligationLoose (dat0 A tv₀ ti₀ c) (defs₀ (F := F)) 𝒱₀ none Set.univ := fun t => by
  rw [bigSep_W0, bigSep_W0]
  show iprop(running A c t.val ∗ (dat0 A tv₀ ti₀ c).owesAt none t.castSucc
        ∗ (∃ d, owns c (stage0_0 (cfg0.slots t 0)) fullShare ((dat0 A tv₀ ti₀ c).before 0 t d))
        ∗ (∃ d, owns c (stage0_1 (cfg0.slots t 1)) fullShare ((dat0 A tv₀ ti₀ c).before 1 t d))
        ∗ (∃ d, owns c (stage0_2 (cfg0.slots t 2)) fullShare ((dat0 A tv₀ ti₀ c).before 2 t d)))
    ⊢ wp frame (wpE (defs₀ (F := F)) 𝒱₀ c none) Set.univ (bodyAt0 t) _
  iintro ⟨HΦ, HO, ⟨%d0, H0⟩, H1, H2⟩
  rw [before0_0]
  have hΦ : (dat0 A tv₀ ti₀ c).Φ t.succ = running A c (t.val + 1) := rfl
  have hb : (win0 0).fill (grid0.coords t) (blk (A c) t.val) ((win0 0).cut (grid0.coords t) ((dat0 A tv₀ ti₀ c).after 0 t)) = blk (A c) t.val :=
    (win0 0).fill_cut _ _
  by_cases ht : t.val = 7
  · have hi1 : idle0 1 (grid0.coords t) = false := by
      have := mt (idle_iff t).mp (not_not.mpr ht)
      exact Bool.not_eq_true _ ▸ this
    have hi2 : idle0 2 (grid0.coords t) = false := hi1
    icases H1 with ⟨%d1, H1⟩
    icases H2 with ⟨%d2, H2⟩
    iapply (wp_wand_r frame)
    isplitl [HΦ HO H0 H1 H2]
    · iapply (step_last A c t (cfg0.slots t 0) (cfg0.slots t 1) (cfg0.slots t 2) ht ((dat0 A tv₀ ti₀ c).owesAt none t.castSucc) _ _)
      isplitl [HΦ]; · iexact HΦ
      isplitl [HO]; · iexact HO
      isplitl [H0]; · iexact H0
      isplitl [H1]; · iexact H1
      iexact H2
    iintro %_ ⟨HΦ, HO, H0, H1, H2⟩
    rw [hΦ]
    simp only [hi1, hi2]
    isplitl [HΦ]; · iexact HΦ
    isplitl [HO]; · iexact HO
    isplitl [H0]
    · iexists (blk (A c) t.val)
      rw [hb]; iexact H0
    isplitl [H1]; · iexact H1
    iexact H2
  · have hi1 : idle0 1 (grid0.coords t) = true := (idle_iff t).mpr ht
    have hi2 : idle0 2 (grid0.coords t) = true := (idle_iff t).mpr ht
    have hf1 : (cfg0.win 1).flush t = false := by
      rw [← Bool.not_eq_true, flush0_1]; have : t.val < 8 := t.isLt; omega
    have hf2 : (cfg0.win 2).flush t = false := by
      rw [← Bool.not_eq_true, flush0_2]; have : t.val < 8 := t.isLt; omega
    iapply (wp_wand_r frame)
    isplitl [HΦ HO H0 H1 H2]
    · iapply (step A c t (cfg0.slots t 0) (cfg0.slots t 1) (cfg0.slots t 2) ht
        iprop((dat0 A tv₀ ti₀ c).owesAt none t.castSucc
        ∗ (∃ d, owns c (stage0_1 (cfg0.slots t 1)) fullShare ((dat0 A tv₀ ti₀ c).before 1 t d))
        ∗ (∃ d, owns c (stage0_2 (cfg0.slots t 2)) fullShare ((dat0 A tv₀ ti₀ c).before 2 t d))))
      isplitl [HΦ]; · iexact HΦ
      isplitl [HO H1 H2]
      · isplitl [HO]; · iexact HO
        isplitl [H1]; · iexact H1
        iexact H2
      iexact H0
    iintro %_ ⟨HΦ, ⟨HO, H1, H2⟩, H0⟩
    rw [hΦ]
    simp only [hi1, hi2, hf1, hf2]
    isplitl [HΦ]; · iexact HΦ
    isplitl [HO]; · iexact HO
    isplitl [H0]
    · iexists (blk (A c) t.val)
      rw [hb]; iexact H0
    isplitl [H1]; · iexact H1
    iexact H2

end Cert.Proof

end
-- ==== Proof.Regions.lean ====
/-
  The two TensorCore calls as regions of `@main`: each entered from its operands' arrays, left with its results' arrays at
  what the kernel computes, the core's account of the SparseCore call it still owes carried across.
-/
module

public import proofs.«01_k».proof.Proof.Argmax

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig (HIx 1) (Elt F) ℕ UU ℕ

variable (m : (ℓ : Loc nD τ sig) → Buf (Elt F) ℓ)

/-- The transposed logits on a device, the argmax kernel's data and the merging kernel's. -/
abbrev AL (c : Dev nD) : Vec F S100000x128 .f32 := AX (m (a0Loc c))
abbrev datA (c : Dev nD) : Dat τ (Elt F) (HIx 1) ℕ UU ℕ cfg0 c :=
  dat0 (fun d => AL m d) (fun d => m (tvLoc d)) (fun d => m (tiLoc d)) c
abbrev datM (c : Dev nD) : Dat τ (Elt F) (HIx 1) ℕ UU ℕ cfg2 c :=
  dat2 (fun d => TVal (AL m d)) (fun d => TIdx (AL m d)) (fun d => SVal (AL m d)) (fun d => SIdx (AL m d)) (fun d => m (miLoc d)) c

/-- The index row the merge leaves. -/
abbrev Merged (c : Dev nD) : Vec F S1x128 .i32 := merged (SVal (AL m c)) (SIdx (AL m c)) (TVal (AL m c)) (TIdx (AL m c))

/-- The calls prefetch nothing. -/
abbrev adm : (p : Fin 2) → (pcfgs (F := F) p).Adm := fun p => (cfgs p).toPCfg_adm

/-- The data of both calls. -/
def pdats : (p : Fin 2) → (c : Dev nD) → Dat τ (Elt F) (HIx 1) ℕ UU ℕ (Pipeline.pin (pcfgs (F := F)) adm p) c
  | ⟨0, _⟩ => fun c => datA m c
  | ⟨1, _⟩ => fun c => datM m c

/-- A TensorCore's account before its launch `n`: what it owes, and waits recorded below that launch. -/
def account (n : ℕ) (c : Dev nD) : sProp 𝕄 :=
  iprop(∃ W, ⌜(K (F := F)).WBelow (c : Thread nD τ) W (8 * n)⌝ ∗ owes (c : Thread nD τ) ((K (F := F)).Otc c n) W)

/-! ## The results' arrays at exit -/

theorem flushed0_1 (c : Dev nD) (t : Fin cfg0.N) : (datA m c).flushed 1 t = TVal (AL m c) := rfl
theorem flushed0_2 (c : Dev nD) (t : Fin cfg0.N) : (datA m c).flushed 2 t = TIdx (AL m c) := rfl

theorem start0_1 : (fun a => (cfg0.win 1).index t0_7 a * main_v1_0.ty.shape.size a) = fun _ => 0 := by decide +kernel
theorem start0_2 : (fun a => (cfg0.win 2).index t0_7 a * main_v1_1.ty.shape.size a) = fun _ => 0 := by decide +kernel

theorem exit0_1 (c : Dev nD) : (datA m c).arrAt 1 cfg0.N = TVal (AL m c) := by
  have h := (datA m c).arrAt_succ 1 t0_7
  rw [if_pos ((flush0_1 t0_7).mpr rfl)] at h
  refine h.trans ?_
  exact Memref.write_access_unit_zero_univ (Elt F) main_v1_0 (off := fun a => (cfg0.win 1).index t0_7 a * main_v1_0.ty.shape.size a) (start0_1) _ _ _

theorem exit0_2 (c : Dev nD) : (datA m c).arrAt 2 cfg0.N = TIdx (AL m c) := by
  have h := (datA m c).arrAt_succ 2 t0_7
  rw [if_pos ((flush0_2 t0_7).mpr rfl)] at h
  refine h.trans ?_
  exact Memref.write_access_unit_zero_univ (Elt F) main_v1_1 (off := fun a => (cfg0.win 2).index t0_7 a * main_v1_1.ty.shape.size a) (start0_2) _ _ _

theorem exit2_4 (c : Dev nD) : (datM m c).arrAt 4 cfg2.N = Merged m c := by
  have h := (datM m c).arrAt_succ 4 t2_0
  rw [if_pos (flush2_4 t2_0)] at h
  refine h.trans ?_
  exact Memref.write_access_unit_zero_univ (Elt F) main_v3 (off := fun a => 0 * main_v3.ty.shape.size a) (funext fun a => Nat.zero_mul _) _ _ _

/-! ## The arrays as points-tos -/

theorem arrays0 (c : Dev nD) (G : (w : Fin 3) → Buf (Elt F) ((cfg0.win w).arr.view.loc (c.tc : Thread nD τ))) :
    ((pdats m 0 c).arrays G : sProp 𝕄) = iprop((xLoc c ↦{fullShare} G 0) ∗ (tvLoc c ↦{fullShare} G 1) ∗ (tiLoc c ↦{fullShare} G 2)) := by
  rw [Pipeline.arrays_eq (Pipeline.pin (pcfgs (F := F)) adm) (pdats m) 0 c arr_whole0 ((pdats m 0 c).share_full fun _ => rfl) G]
  exact bigSep_W0 _

theorem arrays2 (c : Dev nD) (G : (w : Fin 5) → Buf (Elt F) ((cfg2.win w).arr.view.loc (c.tc : Thread nD τ))) :
    ((pdats m 1 c).arrays G : sProp 𝕄) = iprop((tvLoc c ↦{fullShare} G 0) ∗ (tiLoc c ↦{fullShare} G 1) ∗ (svLoc c ↦{fullShare} G 2)
      ∗ (siLoc c ↦{fullShare} G 3) ∗ (miLoc c ↦{fullShare} G 4)) := by
  rw [Pipeline.arrays_eq (Pipeline.pin (pcfgs (F := F)) adm) (pdats m) 1 c arr_whole2 ((pdats m 1 c).share_full fun _ => rfl) G]
  exact bigSep_W2 _

/-! ## The account across a region -/

theorem account_in (n : ℕ) (c : Dev nD) (Y : Set (SemLoc sig × HIx 1)) :
    account (F := F) n c ⊢ Pipeline.owesWithin c ((K (F := F)).Otc c n) (waited (F := F) n c ∪ Y) := by
  unfold account Pipeline.owesWithin
  iintro ⟨%W, %h, HO⟩
  iexists W
  isplitr; · ipureintro; exact fun p hp => Or.inl (h p hp)
  iexact HO

theorem account_out (n : ℕ) (c : Dev nD) (Y : Set (SemLoc sig × HIx 1)) (hY : ∀ p ∈ Y, p.2 = none) :
    Pipeline.owesWithin c ((K (F := F)).Otc c n) (waited (F := F) n c ∪ Y) ⊢ account (F := F) n c := by
  unfold account Pipeline.owesWithin
  iintro ⟨%W, %h, HO⟩
  iexists W
  isplitr; swap; · iexact HO
  ipureintro
  intro p hp
  rcases h hp with h | h
  · exact h
  · rw [hY p h]; exact Nat.zero_le _

theorem waitPairs_none (cfg : Cfg sig Λ₀) : ∀ p ∈ cfg.waitPairs (none : HIx 1), p.2 = none := by
  rintro _ ⟨w, s, rfl⟩; rfl

/-! ## The regions -/

theorem waits_cut (p : Fin 2) (n : ℕ) (c : Dev nD) (howed : ∀ t, (pdats m p c).owed t = (K (F := F)).Otc c n) :
    (levAts (K (F := F)).L (K (F := F)).lev : sProp 𝕄) ⊢ Pipeline.cellsWaits (Pipeline.pin (pcfgs (F := F)) adm) (pdats m) none p c :=
  Pipeline.cellsWaits_of_cut (Pipeline.pin (pcfgs (F := F)) adm) (pdats m) none p c (8 * n) ((K (F := F)).Otc c n) howed
    (fun _ _ => Finset.mem_univ _) (fun _ _ => Nat.zero_le _)
    (fun _ _ h => ⟨Finset.mem_univ _, (K (F := F)).lev_of_Otc_pos h⟩)

theorem body0 (c : Dev nD) : BodyObligationLoose (pdats m 0 c) (defs₀ (F := F)) 𝒱₀ none Set.univ :=
  argmax_obligation (fun d => AL m d) (fun d => m (tvLoc d)) (fun d => m (tiLoc d)) c

theorem body2 (c : Dev nD) : BodyObligationLoose (pdats m 1 c) (defs₀ (F := F)) 𝒱₀ none Set.univ :=
  (merge_obligation (fun d => TVal (AL m d)) (fun d => TIdx (AL m d)) (fun d => SVal (AL m d)) (fun d => SIdx (AL m d)) (fun d => m (miLoc d)) c).loose

set_option backward.isDefEq.respectTransparency.types false in
def region0 : Pipeline.RegionSeg (pcfgs (F := F)) adm (pdats m) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody := body0 m
  hwaits c := waits_cut m 0 0 c fun _ => rfl
  pre c := iprop(((xLoc c ↦{fullShare} AL m c) ∗ (tvLoc c ↦{fullShare} m (tvLoc c)) ∗ (tiLoc c ↦{fullShare} m (tiLoc c))) ∗ account (F := F) 0 c)
  post c := iprop(((xLoc c ↦{fullShare} AL m c) ∗ (tvLoc c ↦{fullShare} TVal (AL m c)) ∗ (tiLoc c ↦{fullShare} TIdx (AL m c))) ∗ account (F := F) 0 c)
  X _ := BI.emp
  Y _ := BI.emp
  Z _ := BI.emp
  hentry c := by
    rw [Pipeline.ownSems0_none, Pipeline.prefHeld_of_none _ rfl, arrays0]
    iintro ⟨⟨Ha, HO⟩, -, -⟩
    imodintro
    isplitl [Ha]; · iexact Ha
    isplitr; · iempintro
    isplitl [HO]; · iapply (account_in (F := F) 0 c); iexact HO
    isplitr <;> iempintro
  hin c := by
    rw [Pipeline.prefHeld_of_none _ rfl]
    show _ ⊢ running (fun d => AL m d) c 0
    iintro ⟨-, -, Hr⟩
    ihave Hr := (Entails.of_eq (scopedRest0_eq c)) $$ Hr
    icases Hr with ⟨⟨%v, Hv⟩, ⟨%w, Hw⟩, Hr⟩
    unfold running rest0
    isplitl [Hv Hw]
    · iexists v; iexists w
      isplitr; swap
      · isplitl [Hv]; · iexact Hv
        iexact Hw
      ipureintro
      intro k hk
      omega
    iexact Hr
  hout c := by
    rw [Pipeline.ownSems0_none]
    show running (fun d => AL m d) c 8 ⊢ _
    unfold running rest0
    iintro ⟨⟨%v, %w, -, Hv, Hw⟩, Hr⟩
    isplitr; · iempintro
    isplitr; · iempintro
    iapply (Entails.of_eq (scopedRest0_eq c).symm)
    isplitl [Hv]; · iexists v; iexact Hv
    isplitl [Hw]; · iexists w; iexact Hw
    iexact Hr
  hexit c := by
    rw [arrays0]
    iintro ⟨⟨Hx, Hv, Hi⟩, HO, -, -⟩
    imodintro
    isplitl [Hx Hv Hi]
    · isplitl [Hx]; · iapply (Entails.of_eq (congrArg (fun f => (xLoc c ↦{fullShare} f : sProp 𝕄)) ((datA m c).arrAt_in 0 rfl _))); iexact Hx
      isplitl [Hv]; · iapply (Entails.of_eq (congrArg (fun f => (tvLoc c ↦{fullShare} f : sProp 𝕄)) (exit0_1 m c))); iexact Hv
      iapply (Entails.of_eq (congrArg (fun f => (tiLoc c ↦{fullShare} f : sProp 𝕄)) (exit0_2 m c))); iexact Hi
    iapply (account_out (F := F) 0 c _ (waitPairs_none cfg0)); iexact HO

set_option backward.isDefEq.respectTransparency.types false in
def region2 : Pipeline.RegionSeg (pcfgs (F := F)) adm (pdats m) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody := body2 m
  hwaits c := waits_cut m 1 1 c fun _ => rfl
  pre c := iprop(((tvLoc c ↦{fullShare} TVal (AL m c)) ∗ (tiLoc c ↦{fullShare} TIdx (AL m c)) ∗ (svLoc c ↦{fullShare} SVal (AL m c))
    ∗ (siLoc c ↦{fullShare} SIdx (AL m c)) ∗ (miLoc c ↦{fullShare} m (miLoc c))) ∗ account (F := F) 1 c)
  post c := iprop((miLoc c ↦{fullShare} Merged m c) ∗ account (F := F) 1 c)
  X _ := BI.emp
  Y _ := BI.emp
  Z _ := BI.emp
  hentry c := by
    rw [Pipeline.ownSems0_none, Pipeline.prefHeld_of_none _ rfl, arrays2]
    iintro ⟨⟨Ha, HO⟩, -, -⟩
    imodintro
    isplitl [Ha]; · iexact Ha
    isplitr; · iempintro
    isplitl [HO]; · iapply (account_in (F := F) 1 c); iexact HO
    isplitr <;> iempintro
  hin c := by
    show _ ⊢ rest2 c
    iintro ⟨-, -, Hr⟩
    iexact Hr
  hout c := by
    rw [Pipeline.ownSems0_none]
    show rest2 c ⊢ _
    iintro Hr
    isplitr; · iempintro
    isplitr; · iempintro
    iexact Hr
  hexit c := by
    rw [arrays2]
    iintro ⟨⟨-, -, -, -, Ho⟩, HO, -, -⟩
    imodintro
    isplitl [Ho]
    · iapply (Entails.of_eq (congrArg (fun f => (miLoc c ↦{fullShare} f : sProp 𝕄)) (exit2_4 m c))); iexact Ho
    iapply (account_out (F := F) 1 c _ (waitPairs_none cfg2)); iexact HO

end Cert.Proof

end
-- ==== Proof.Run.lean ====
/-
  `@main` run to its end: the transpose, the argmax over the first rows, the SparseCore call, the merge and the final
  reshape; and from it the whole program's run, its result's array at what the parts compute and its argument unchanged.
-/
module

public import proofs.«01_k».proof.Proof.Jobs
public import proofs.«01_k».proof.Proof.Regions

@[expose] public section

noncomputable section

namespace Cert.Proof

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The facts about the launch semaphores and the SparseCores' buffers, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state the launch deals -/

/-- The two calls' staging cells are distinct. -/
theorem cells_inj : Function.Injective (Pipeline.cellOf (nD := nD) (τ := τ) (Pipeline.pin (pcfgs (F := F)) adm)) := cellOf_inj

def u₀ : UU :=
  (initOf (K (F := F)).hsCells (K (F := F)).hsToks,
    (initOf (Pipeline.cells (Pipeline.pin (pcfgs (F := F)) adm) cells_inj) (Pipeline.launchToks (Pipeline.pin (pcfgs (F := F)) adm) cells_inj), 1))

/-- One call's cells on a device. -/
abbrev ghost (p : Fin 2) (d : Dev nD) : sProp 𝕄 :=
  iprop(Pipeline.cellsGhost (Pipeline.pin (pcfgs (F := F)) adm) EP p d ∗ Pipeline.toksInit (Pipeline.pin (pcfgs (F := F)) adm) EP p d)

omit [FloatOps F] in
theorem bigSep_emp' {I : Type} (s : Finset I) : (bigSep s fun _ => iprop(emp)) = (iprop(emp) : sProp 𝕄) := bigSep_emp_const s

theorem hfund :
    (BI.own (((Emb.inl : Emb UP (UP × Counters)).trans (embR : Emb (UP × Counters) (MM F)))
      (initOf (Pipeline.cells (Pipeline.pin (pcfgs (F := F)) adm) cells_inj) (Pipeline.launchToks (Pipeline.pin (pcfgs (F := F)) adm) cells_inj))) : sProp 𝕄)
      ⊢ iprop(|==> ((bigSep Finset.univ fun d : Dev nD => bigSep Finset.univ fun p : Fin 2 => Pipeline.cellsGhost (Pipeline.pin (pcfgs (F := F)) adm) EP p d)
        ∗ bigSep Finset.univ fun d : Dev nD => bigSep Finset.univ fun p : Fin 2 => Pipeline.toksInit (Pipeline.pin (pcfgs (F := F)) adm) EP p d)) :=
  Pipeline.fund_ghost (Pipeline.pin (pcfgs (F := F)) adm) EP cells_inj

theorem hu₀ : (ownU (u₀ (F := F)) : sProp 𝕄)
    ⊢ |={Set.univ}=> iprop(BI.own (EH (initOf (K (F := F)).hsCells (K (F := F)).hsToks))
        ∗ (bigSep Finset.univ fun d : Dev nD => bigSep Finset.univ fun p : Fin 2 => ghost p d)
        ∗ bigSep Finset.univ fun thr : Thread nD τ => bigSep Finset.univ fun q : Fin 1 => (P m).x q thr) := by
  unfold u₀
  iintro Hu
  ihave H := (ownU_pair _ _) $$ Hu
  icases H with ⟨HH, Hr⟩
  ihave Hr := (own_pair_emb _ _ _) $$ Hr
  icases Hr with ⟨HP, -⟩
  imod (hfund (F := F)) $$ HP with ⟨Hg, Ht⟩
  imodintro
  isplitl [HH]; · iexact HH
  isplitl
  · simp only [bigSep_sep']
    isplitl [Hg]; · iexact Hg
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The steps of `@main` -/

/-- The core's account, lent by what it holds between calls. -/
theorem lend (d : Dev nD) (n : ℕ) :
    (K (F := F)).tcSt EH d n ⊢ iprop(account (F := F) n d ∗ (account (F := F) n d -∗ (K (F := F)).tcSt EH d n)) := by
  unfold SparseCore.Cfg.tcSt account
  rw [show SparseCore.Cfg.Blocks.fst 1 1 n = n from rfl]
  iintro ⟨HO, Hr⟩
  isplitl [HO]; · iexact HO
  iintro HO
  isplitl [HO]; · iexact HO
  iexact Hr

theorem region_step (p : Fin 2) (R : Pipeline.RegionSeg (pcfgs (F := F)) adm (pdats m) none defs₀ 𝒱₀ (K (F := F)).L (K (F := F)).lev p)
    (d : Dev nD) (Φ : PUnit → sProp 𝕄) :
    iprop((iprop(boundary (d.tc : Thread nD τ) ∗ R.post d) -∗ Φ ⟨⟩)
        ∗ boundary (d.tc : Thread nD τ) ∗ R.pre d ∗ levAts (K (F := F)).L (K (F := F)).lev ∗ ghost p d)
      ⊢ wp frame (wpE ((K (F := F)).defs (D (F := F))) 𝒱 (SparseCore.T d) none) Set.univ
          (Prog.lift (.customCall (SparseCore.inner (Pipeline.entry p)) ())) Φ := by
  refine BI.Entails.trans ?_ ((K (F := F)).wp_liftProg (D (F := F)) 𝒱 (SparseCore.T d) Set.univ none (.op (.customCall (Pipeline.entry p) ()) .ret) Φ)
  refine BI.Entails.trans ?_ (Pipeline.RegionSeg.wp (pcfgs (F := F)) adm (pdats m) none cells_inj EP defs₀ 𝒱₀ (K (F := F)).L (K (F := F)).lev R d none
    (fun _ h => nomatch h) .ret Φ)
  rw [wp_ret]
  show iprop((iprop(boundary (d.tc : Thread nD τ) ∗ R.post d) -∗ Φ ⟨⟩)
        ∗ boundary (d.tc : Thread nD τ) ∗ R.pre d ∗ levAts (K (F := F)).L (K (F := F)).lev ∗ ghost p d)
      ⊢ iprop((iprop(boundary (d.tc : Thread nD τ) ∗ R.post d) -∗ |={Set.univ}=> Φ ⟨⟩)
        ∗ boundary (d.tc : Thread nD τ) ∗ R.pre d ∗ levAts (K (F := F)).L (K (F := F)).lev ∗ ghost p d)
  iintro ⟨Hk, Hb, Hp, Hl, Hg, Ht⟩
  isplitl [Hk]
  · iintro H; imodintro; iapply Hk; iexact H
  isplitl [Hb]; · iexact Hb
  isplitl [Hp]; · iexact Hp
  isplitl [Hl]; · iexact Hl
  isplitl [Hg]; · iexact Hg
  iexact Ht

/-! ## `@main`

    The two `stablehlo` operations each touch two of the module's values: `held` over those two is their two points-tos. -/

abbrev a0' : DevRef τ sig := Proc.devRef .tc (main_arg0 : Ref sig .tc)
abbrev x' : DevRef τ sig := Proc.devRef .tc (main_v0 : Ref sig .tc)
abbrev mi' : DevRef τ sig := Proc.devRef .tc (main_v3 : Ref sig .tc)
abbrev out' : DevRef τ sig := Proc.devRef .tc (main_v4 : Ref sig .tc)

/-- The values at the launch. -/
def V0 (d : Dev nD) : Valuation τ sig (Elt F) := fun b => m (d, b)

/-- The values after the merge. -/
def V1 (d : Dev nD) : Valuation τ sig (Elt F) := Function.update (V0 m d) mi' (Merged m d)

/-- The result's array: the merged row of indices, as a column. -/
def Out (d : Dev nD) : Buf (Elt F) (outLoc d) := fun i => shapeCast S128x1 (Merged m d) shapeCasts_S1x128_S128x1 i

/-- The transpose `@main` begins with. -/
abbrev opT : HloOp τ sig (Elt F) :=
  StableHlo.unary main_arg0 main_v0 ((transpose S100000x128 [1, 0] · transposes_S128x100000_S100000x128_1_0) : (main_arg0 : Ref sig .tc).ty.Contents (Elt F) → (main_v0 : Ref sig .tc).ty.Contents (Elt F))

/-- The reshape it ends with. -/
abbrev opR : HloOp τ sig (Elt F) := StableHlo.reshape main_v3 main_v4 (rfl : (.i32 : EltTy) = .i32) shapeCasts_S1x128_S128x1

theorem held_ends (d : Dev nD) (V : Valuation τ sig (Elt F)) :
    (held (SparseCore.T d) {a0', x'} V : sProp 𝕄) = iprop((a0Loc d ↦{fullShare} V a0') ∗ (xLoc d ↦{fullShare} V x')) := by
  unfold held
  rw [SparseCore.bigSep_insert' (by decide), bigSep_singleton]

theorem held_out (d : Dev nD) (V : Valuation τ sig (Elt F)) :
    (held (SparseCore.T d) {mi', out'} V : sProp 𝕄) = iprop((miLoc d ↦{fullShare} V mi') ∗ (outLoc d ↦{fullShare} V out')) := by
  unfold held
  rw [SparseCore.bigSep_insert' (by decide), bigSep_singleton]

theorem held_transposed (d : Dev nD) :
    (held (SparseCore.T d) {a0', x'} (opT.result (V0 m d)) : sProp 𝕄) = iprop((a0Loc d ↦{fullShare} m (a0Loc d)) ∗ (xLoc d ↦{fullShare} AL m d)) := by
  have h1 : opT.result (V0 m d) a0' = m (a0Loc d) := HloOp.result_of_not_mem _ (V0 m d) (show a0' ∉ ({x'} : Finset (DevRef τ sig)) by decide)
  have h2 : opT.result (V0 m d) x' = AL m d := StableHlo.unary_result ..
  rw [held_ends, h1, h2]

theorem held_merged (d : Dev nD) :
    (held (SparseCore.T d) {mi', out'} (V1 m d) : sProp 𝕄) = iprop((miLoc d ↦{fullShare} Merged m d) ∗ (outLoc d ↦{fullShare} m (outLoc d))) := by
  have h1 : V1 m d mi' = Merged m d := Function.update_self ..
  have h2 : V1 m d out' = m (outLoc d) := Function.update_of_ne (show out' ≠ mi' by decide) ..
  rw [held_out, h1, h2]

theorem held_reshaped (d : Dev nD) :
    (held (SparseCore.T d) {mi', out'} (opR.result (V1 m d)) : sProp 𝕄) = iprop((miLoc d ↦{fullShare} Merged m d) ∗ (outLoc d ↦{fullShare} Out m d)) := by
  have h1 : V1 m d mi' = Merged m d := Function.update_self ..
  have h2 : opR.result (V1 m d) mi' = Merged m d :=
    (HloOp.result_of_not_mem _ (V1 m d) (show mi' ∉ ({out'} : Finset (DevRef τ sig)) by decide)).trans h1
  have h3 : opR.result (V1 m d) out' = Out m d := by
    refine (StableHlo.reshape_result ..).trans ?_
    rw [h1]; rfl
  rw [held_out, h2, h3]

/-- The module's buffers that outlive a launch: the argument and the seven values. -/
theorem unscopedBufs_eq (d : Dev nD) :
    (unscopedBufs d (fun b => m ((SparseCore.T d).loc b)) : sProp 𝕄)
      = iprop((a0Loc d ↦{fullShare} m (a0Loc d)) ∗ (xLoc d ↦{fullShare} m (xLoc d)) ∗ (tvLoc d ↦{fullShare} m (tvLoc d))
          ∗ (tiLoc d ↦{fullShare} m (tiLoc d)) ∗ (svLoc d ↦{fullShare} m (svLoc d)) ∗ (siLoc d ↦{fullShare} m (siLoc d))
          ∗ (miLoc d ↦{fullShare} m (miLoc d)) ∗ (outLoc d ↦{fullShare} m (outLoc d))) := by
  unfold unscopedBufs
  rw [show (Finset.univ.filter fun b : Ref sig .tc => ¬ b.isScoped) = {main_arg0, main_v0, main_v1_0, main_v1_1, main_v2_0, main_v2_1, main_v3, main_v4} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem pre0_eq (d : Dev nD) :
    (region0 m).pre d = iprop(((xLoc d ↦{fullShare} AL m d) ∗ (tvLoc d ↦{fullShare} m (tvLoc d)) ∗ (tiLoc d ↦{fullShare} m (tiLoc d))) ∗ account (F := F) 0 d) := rfl

theorem pre2_eq (d : Dev nD) :
    (region2 m).pre d = iprop(((tvLoc d ↦{fullShare} TVal (AL m d)) ∗ (tiLoc d ↦{fullShare} TIdx (AL m d)) ∗ (svLoc d ↦{fullShare} SVal (AL m d))
      ∗ (siLoc d ↦{fullShare} SIdx (AL m d)) ∗ (miLoc d ↦{fullShare} m (miLoc d))) ∗ account (F := F) 1 d) := rfl

abbrev FIN (d : Dev nD) : sProp 𝕄 := iprop((a0Loc d ↦{fullShare} m (a0Loc d)) ∗ (outLoc d ↦{fullShare} Out m d))

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ (bigSep Finset.univ fun p : Fin 2 => ghost p d))
      ⊢ wp frame (wpE ((K (F := F)).defs (D (F := F))) 𝒱 (SparseCore.T d) none) Set.univ (main (F := F) d)
          fun _ => iprop((K (F := F)).tcSt EH d 1 ∗ FIN m d ∗ (K (F := F)).tcEnd d) := by
  unfold SparseCore.Cfg.tcRes SparseCore.Cfg.tcEnd
  rw [unscopedBufs_eq, show (Finset.univ : Finset (Fin 2)) = {0, 1} by decide, SparseCore.bigSep_insert' (by decide), bigSep_singleton]
  simp only [main, wp_bind, wp_pure]
  iintro ⟨#Hctx, Hst, ⟨Hb, ⟨Ha, Hx, Htv, Hti, Hsv, Hsi, Hmi, Ho⟩, Hts, -⟩, ⟨Hg0, Hg1⟩⟩
  ihave #Hlev := ((K (F := F)).ctx_levAts κ) $$ Hctx
  -- The transpose.
  iapply (wp_hlo_within 𝒱 (SparseCore.T d) none Set.univ (op := opT)
    (S := {a0', x'}) (show ({a0', x'} : Finset (DevRef τ sig)) ⊆ {a0', x'} from Finset.Subset.refl _) (V := V0 m d)) $$ [Hb Ha Hx]
  · isplitl [Hb]; · iexact Hb
    rw [held_ends]
    isplitl [Ha]; · iexact Ha
    iexact Hx
  iintro ⟨Hb, Hh⟩
  rw [wp_ret]; imodintro
  ihave Hh := (Entails.of_eq (held_transposed m d)) $$ Hh
  icases Hh with ⟨Ha, Hx⟩
  -- The argmax over the first rows.
  ihave Hst := (lend d 0) $$ Hst
  icases Hst with ⟨HO, Hst⟩
  iapply (region_step m 0 (region0 m) d _)
  isplitr [Hb Hx Htv Hti HO Hg0]
  rotate_left
  · isplitl [Hb]; · iexact Hb
    isplitl [Hx Htv Hti HO]
    · iapply (Entails.of_eq (pre0_eq m d).symm)
      isplitr [HO]
      · isplitl [Hx]; · iexact Hx
        isplitl [Htv]; · iexact Htv
        iexact Hti
      iexact HO
    isplitl []; · iexact Hlev
    iexact Hg0
  iintro ⟨Hb, Hp⟩
  ihave Hp := (Entails.of_eq (show (region0 m).post d = iprop(((xLoc d ↦{fullShare} AL m d) ∗ (tvLoc d ↦{fullShare} TVal (AL m d)) ∗ (tiLoc d ↦{fullShare} TIdx (AL m d))) ∗ account (F := F) 0 d) from rfl)) $$ Hp
  icases Hp with ⟨⟨Hx, Htv, Hti⟩, HO⟩
  ihave Hst := Hst $$ HO
  -- The SparseCore call.
  iapply ((K (F := F)).wp_run (D (F := F)) 𝒱 (EH := EH) (P := P m) κ d 0) $$ [Hst Hx Hsv Hsi Ha Hb Htv Hti Hmi Ho Hts Hg1]
  isplitr; · iexact Hctx
  isplitl [Hst]; · iexact Hst
  isplitl [Hx Hsv Hsi]
  · rw [st_eq]
    isplitl [Hx]; · iexact Hx
    isplitl [Hsv]; · iexact Hsv
    iexact Hsi
  iintro ⟨Hst, Hdn⟩
  ihave Hdn := (Entails.of_eq (dn_eq m d)) $$ Hdn
  icases Hdn with ⟨-, Hsv, Hsi⟩
  -- The merge.
  ihave Hst := (show (K (F := F)).tcSt EH d ((0 : Fin 1).val + 1) ⊢ _ from lend d 1) $$ Hst
  icases Hst with ⟨HO, Hst⟩
  iapply (region_step m 1 (region2 m) d _)
  isplitr [Hb Htv Hti Hsv Hsi Hmi HO Hg1]
  rotate_left
  · isplitl [Hb]; · iexact Hb
    isplitl [Htv Hti Hsv Hsi Hmi HO]
    · iapply (Entails.of_eq (pre2_eq m d).symm)
      isplitr [HO]
      · isplitl [Htv]; · iexact Htv
        isplitl [Hti]; · iexact Hti
        isplitl [Hsv]; · iexact Hsv
        isplitl [Hsi]; · iexact Hsi
        iexact Hmi
      iexact HO
    isplitl []; · iexact Hlev
    iexact Hg1
  iintro ⟨Hb, Hp⟩
  ihave Hp := (Entails.of_eq (show (region2 m).post d = iprop((miLoc d ↦{fullShare} Merged m d) ∗ account (F := F) 1 d) from rfl)) $$ Hp
  icases Hp with ⟨Hmi, HO⟩
  ihave Hst := Hst $$ HO
  -- The reshape.
  iapply (wp_hlo_within 𝒱 (SparseCore.T d) none Set.univ (op := opR)
    (S := {mi', out'}) (show ({mi', out'} : Finset (DevRef τ sig)) ⊆ {mi', out'} from Finset.Subset.refl _) (V := V1 m d)) $$ [Hb Hmi Ho]
  · isplitl [Hb]; · iexact Hb
    iapply (Entails.of_eq (held_merged m d).symm)
    isplitl [Hmi]; · iexact Hmi
    iexact Ho
  iintro ⟨Hb, Hh⟩
  rw [wp_ret]; imodintro; imodintro
  ihave Hh := (Entails.of_eq (held_reshaped m d)) $$ Hh
  icases Hh with ⟨-, Ho⟩
  isplitl [Hst]; · iexact Hst
  isplitr [Hb Hts]
  · isplitl [Ha]; · iexact Ha
    iexact Ho
  isplitl [Hb] <;> iassumption

/-! ## The program's run -/

def fq (d : Dev nD) (s' : Phys nD τ sig (Elt F)) : Prop := s'.mem.mem (a0Loc d) = m (a0Loc d) ∧ s'.mem.mem (outLoc d) = Out m d

set_option maxRecDepth 16384 in
theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := a0Loc d) (I := Finset.univ) (q := fullShare) (f := m (a0Loc d)))) $$ [HSI Ha]
  · isplitl [HSI] <;> iassumption
  icases H with ⟨%h1, HSI, -⟩
  ihave H := (SI_pointsTo_agree (st := s') (ℓ := outLoc d) (I := Finset.univ) (q := fullShare) (f := Out m d)) $$ [HSI Ho]
  · isplitl [HSI] <;> iassumption
  icases H with %h2
  ipureintro; exact ⟨funext fun i => h1 i (Finset.mem_univ i), funext fun i => h2 i (Finset.mem_univ i)⟩

/-- What every run ends with: the argument as it was, the result at what the parts compute, every semaphore at zero. -/
def QC : PUnit × MemSt nD τ sig (Elt F) → Prop := fun r =>
  (∀ c : Dev nD, r.2.mem (a0Loc c) = m (a0Loc c) ∧ r.2.mem (outLoc c) = Out m c) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => bigSep Finset.univ fun p : Fin 2 => ghost p d) (FIN m) (u₀ (F := F)) (sep_elim_left.trans (hu₀ m))
    (hmain m ρ) (fq m) (hfin m) (QC m) (fun _ h hz => ⟨h, hz⟩)

end Cert.Proof

end
-- ==== Proof.Order.lean ====
/-
  The largest value of a row of extended reals over a set of indices, and the smallest index at which it is met: how a
  scan, a block's reduction, a comparison of two parts and a stable sort each find it.
-/
module

public import proofs.«01_k».proof.Proof.Scan
public import Idealize.ShloMosaic.PureOps.Ideal
public import Idealize.ShloMosaic.PureOps.Ideal.Laws
public import Idealize.ShloMosaic.Lib.SortFacts

@[expose] public section

noncomputable section

namespace Cert.Proof.Order

open Idealize.ShloMosaic Cert.Proof.Scan

/-- Over the indices in `S`, `v` is the largest of the `x n`, and `i` the smallest index at which it is met. -/
structure Best (x : ℕ → EReal) (S : ℕ → Prop) (v : EReal) (i : ℕ) : Prop where
  mem : S i
  val : x i = v
  le : ∀ n, S n → x n ≤ v
  first : ∀ n, S n → x n = v → i ≤ n

/-- The same, but where `v` is `−∞` nothing is said of `i`: what a scan that begins at `−∞` knows. -/
structure Weak (x : ℕ → EReal) (S : ℕ → Prop) (v : EReal) (i : ℕ) : Prop where
  le : ∀ n, S n → x n ≤ v
  best : v ≠ ⊥ → Best x S v i

theorem Best.unique {x : ℕ → EReal} {S : ℕ → Prop} {v v' : EReal} {i i' : ℕ} (h : Best x S v i) (h' : Best x S v' i') : i = i' := by
  have e : v = v' := le_antisymm (h.val ▸ h'.le i h.mem) (h'.val ▸ h.le i' h'.mem)
  subst e
  exact le_antisymm (h.first i' h'.mem h'.val) (h'.first i h.mem h.val)

theorem Best.congr {x : ℕ → EReal} {S S' : ℕ → Prop} {v : EReal} {i : ℕ} (h : Best x S v i) (e : ∀ n, S n ↔ S' n) : Best x S' v i := by
  have : S = S' := funext fun n => propext (e n)
  exact this ▸ h

theorem Weak.congr {x : ℕ → EReal} {S S' : ℕ → Prop} {v : EReal} {i : ℕ} (h : Weak x S v i) (e : ∀ n, S n ↔ S' n) : Weak x S' v i := by
  have : S = S' := funext fun n => propext (e n)
  exact this ▸ h

/-! ## Comparisons over the extended reals -/

theorem gt_eq_one (a b : EReal) : (FloatOps.cmpf (F := Ideal) (φ := .f32) .ogt a b = 1#1) ↔ b < a := by
  show (BitVec.ofBool (decide (b < a)) = 1#1) ↔ b < a
  by_cases h : b < a <;> simp [h]

theorem eq_eq_one (a b : EReal) : (FloatOps.cmpf (F := Ideal) (φ := .f32) .oeq a b = 1#1) ↔ a = b := by
  show (BitVec.ofBool (decide (a = b)) = 1#1) ↔ a = b
  by_cases h : a = b <;> simp [h]

theorem select_gt {α : Type} (a b : EReal) (u v : α) :
    Scalar.select (FloatOps.cmpf (F := Ideal) (φ := .f32) .ogt a b) u v = if b < a then u else v := by
  by_cases h : b < a
  · rw [if_pos h]; exact if_pos ((gt_eq_one a b).2 h)
  · rw [if_neg h]; exact if_neg fun h' => h ((gt_eq_one a b).1 h')

/-- The word a scan and a maximum begin at is `−∞`. -/
theorem negInf : (FloatOps.ofBits (F := Ideal) .f32 0xFF800000#32 : EReal) = ⊥ := by
  show Ideal.ofBits .f32 0xFF800000#32 = ⊥
  simp [Ideal.ofBits, Ideal.ieee]

/-! ## A part before another, the later taken only when strictly larger -/

/-- Two parts, every index of the second after every index of the first. -/
theorem Best.pick {x : ℕ → EReal} {S T : ℕ → Prop} {a b : EReal} {i j : ℕ} (h : Best x S a i) (hle : ∀ n, T n → x n ≤ b)
    (ht : a < b → Best x T b j) (hST : ∀ n k, S n → T k → n < k) :
    Best x (fun n => S n ∨ T n) (if a < b then b else a) (if a < b then j else i) := by
  by_cases hab : a < b
  · rw [if_pos hab, if_pos hab]
    have t := ht hab
    refine ⟨.inr t.mem, t.val, ?_, ?_⟩
    · rintro n (hn | hn)
      · exact (h.le n hn).trans hab.le
      · exact t.le n hn
    · rintro n (hn | hn) e
      · exact absurd (e ▸ h.le n hn) (not_le.2 hab)
      · exact t.first n hn e
  · rw [if_neg hab, if_neg hab]
    have hba := not_lt.1 hab
    refine ⟨.inl h.mem, h.val, ?_, ?_⟩
    · rintro n (hn | hn)
      · exact h.le n hn
      · exact (hle n hn).trans hba
    · rintro n (hn | hn) e
      · exact h.first n hn e
      · exact (hST i n h.mem hn).le

/-! ## A scan -/

theorem Weak.start (x : ℕ → EReal) : Weak x (fun _ => False) (start (F := Ideal)).1 (start (F := Ideal)).2.toNat :=
  ⟨fun _ h => h.elim, fun h => absurd negInf h⟩

theorem Weak.step {x : ℕ → EReal} {S : ℕ → Prop} {s : Lane Ideal} (h : Weak x S s.1 s.2.toNat) {n : ℕ} (hn : n < 2 ^ 32)
    (hS : ∀ k, S k → k < n) :
    Weak x (fun k => S k ∨ k = n) (Scan.step s (x n) (BitVec.ofNat 32 n)).1 (Scan.step s (x n) (BitVec.ofNat 32 n)).2.toNat := by
  have e : Scan.step s (x n) (BitVec.ofNat 32 n) = (if s.1 < x n then x n else s.1, if s.1 < x n then BitVec.ofNat 32 n else s.2) :=
    Prod.ext (select_gt _ _ _ _) (select_gt _ _ _ _)
  rw [e]
  show Weak x _ (if s.1 < x n then x n else s.1) (if s.1 < x n then BitVec.ofNat 32 n else s.2).toNat
  by_cases hab : s.1 < x n
  · rw [if_pos hab, if_pos hab, BitVec.toNat_ofNat, Nat.mod_eq_of_lt hn]
    have hle : ∀ k, S k ∨ k = n → x k ≤ x n := by
      rintro k (hk | rfl)
      · exact (h.le k hk).trans hab.le
      · exact le_rfl
    refine ⟨hle, fun _ => ⟨.inr rfl, rfl, hle, ?_⟩⟩
    rintro k (hk | rfl) e
    · exact absurd (e ▸ h.le k hk) (not_le.2 hab)
    · exact le_rfl
  · rw [if_neg hab, if_neg hab]
    have hle : ∀ k, S k ∨ k = n → x k ≤ s.1 := by
      rintro k (hk | rfl)
      · exact h.le k hk
      · exact not_lt.1 hab
    refine ⟨hle, fun hv => ?_⟩
    have b := h.best hv
    refine ⟨.inl b.mem, b.val, hle, ?_⟩
    rintro k (hk | rfl) e
    · exact b.first k hk e
    · exact (hS _ b.mem).le

theorem Weak.scan {x : ℕ → EReal} {S : ℕ → Prop} {s : Lane Ideal} (h : Weak x S s.1 s.2.toNat) (b : ℕ) (y : ℕ → EReal) (N : ℕ)
    (hb : b + N ≤ 2 ^ 32) (hy : ∀ r, r < N → y r = x (b + r)) (hS : ∀ k, S k → k < b) (n : ℕ) (hn : n ≤ N) :
    Weak x (fun k => S k ∨ b ≤ k ∧ k < b + n) (Scan.scan s b y n).1 (Scan.scan s b y n).2.toNat := by
  induction n with
  | zero => exact h.congr fun k => ⟨.inl, fun e => e.elim id fun e => by omega⟩
  | succ n ih =>
    have := (ih (by omega)).step (n := b + n) (by omega) (fun k hk => hk.elim (fun hk => by have := hS k hk; omega) fun hk => hk.2)
    rw [← hy n (by omega)] at this
    refine this.congr fun k => ?_
    constructor
    · rintro ((hk | hk) | rfl)
      · exact .inl hk
      · exact .inr (by omega)
      · exact .inr (by omega)
    · rintro (hk | hk)
      · exact .inl (.inl hk)
      · by_cases e : k = b + n
        · exact .inr e
        · exact .inl (.inr (by omega))

/-! ## A reduction -/

section Reduction
variable {N : ℕ}

theorem fold_max_ge (f : Fin N → EReal) (k : Fin N) : f k ≤ Finset.univ.fold max ⊥ f :=
  Finset.le_fold_max (f k) |>.2 (.inr ⟨k, Finset.mem_univ k, le_rfl⟩)

theorem fold_max_met (hN : 0 < N) (f : Fin N → EReal) : ∃ k, f k = Finset.univ.fold max ⊥ f := by
  obtain ⟨k, -, hk⟩ := Finset.exists_max_image Finset.univ f ⟨⟨0, hN⟩, Finset.mem_univ _⟩
  exact ⟨k, le_antisymm (fold_max_ge f k) (Finset.fold_max_le (f k) |>.2 ⟨bot_le, fun j hj => hk j hj⟩)⟩

theorem minsi_eq {a b : BitVec 32} (ha : a.toNat < 2 ^ 31) (hb : b.toNat < 2 ^ 31) :
    IntOp.minsi a b = if a.toNat < b.toNat then a else b := by
  have e : (a.slt b = true) ↔ a.toNat < b.toNat := by
    rw [BitVec.slt_eq_decide, decide_eq_true_eq, BitVec.toInt_eq_toNat_cond, BitVec.toInt_eq_toNat_cond, if_pos (by omega), if_pos (by omega)]
    omega
  unfold IntOp.minsi
  by_cases h : a.toNat < b.toNat
  · rw [if_pos h, if_pos (e.2 h)]
  · rw [if_neg h, if_neg (fun h' => h (e.1 h'))]

/-- The signed minimum of words that are not negative, from the largest word: no larger than any, and one of them or that word. -/
theorem fold_min (s : Finset (Fin N)) (g : Fin N → BitVec 32) (hg : ∀ k, (g k).toNat < 2 ^ 31) :
    (s.fold IntOp.minsi 2147483647#32 g).toNat < 2 ^ 31
      ∧ (∀ k ∈ s, (s.fold IntOp.minsi 2147483647#32 g).toNat ≤ (g k).toNat)
      ∧ (s.fold IntOp.minsi 2147483647#32 g = 2147483647#32 ∨ ∃ k ∈ s, s.fold IntOp.minsi 2147483647#32 g = g k) := by
  classical
  induction s using Finset.induction_on with
  | empty => exact ⟨by rw [Finset.fold_empty]; decide, by simp, .inl rfl⟩
  | insert a s ha ih =>
    obtain ⟨h1, h2, h3⟩ := ih
    rw [Finset.fold_insert ha, minsi_eq (hg a) h1]
    by_cases h : (g a).toNat < (s.fold IntOp.minsi 2147483647#32 g).toNat
    · rw [if_pos h]
      refine ⟨hg a, ?_, .inr ⟨a, Finset.mem_insert_self a s, rfl⟩⟩
      intro k hk
      rcases Finset.mem_insert.1 hk with rfl | hk
      · exact le_rfl
      · exact h.le.trans (h2 k hk)
    · rw [if_neg h]
      refine ⟨h1, ?_, ?_⟩
      · intro k hk
        rcases Finset.mem_insert.1 hk with rfl | hk
        · exact not_lt.1 h
        · exact h2 k hk
      · rcases h3 with h3 | ⟨k, hk, h3⟩
        · exact .inl h3
        · exact .inr ⟨k, Finset.mem_insert_of_mem hk, h3⟩

/-- The smallest of the words `c k` at which `f k` is `m`, the others replaced by `2³⁰`. -/
theorem masked_min (f : Fin N → EReal) (m : EReal) (c : Fin N → BitVec 32) (k₀ : Fin N) (h₀ : f k₀ = m)
    (hc : ∀ k, f k = m → (c k).toNat < 2 ^ 30) :
    (∃ k, f k = m ∧ Finset.univ.fold IntOp.minsi 2147483647#32 (fun k => Scalar.select (FloatOps.cmpf (F := Ideal) (φ := .f32) .oeq (f k) m) (c k) 1073741824#32) = c k)
      ∧ ∀ k, f k = m → (Finset.univ.fold IntOp.minsi 2147483647#32 (fun k => Scalar.select (FloatOps.cmpf (F := Ideal) (φ := .f32) .oeq (f k) m) (c k) 1073741824#32)).toNat ≤ (c k).toNat := by
  set g : Fin N → BitVec 32 := fun k => Scalar.select (FloatOps.cmpf (F := Ideal) (φ := .f32) .oeq (f k) m) (c k) 1073741824#32 with hgd
  have g1 : ∀ k, f k = m → g k = c k := fun k h => if_pos ((eq_eq_one _ _).2 h)
  have g2 : ∀ k, f k ≠ m → g k = 1073741824#32 := fun k h => if_neg fun h' => h ((eq_eq_one _ _).1 h')
  have hg : ∀ k, (g k).toNat < 2 ^ 31 := by
    intro k
    by_cases h : f k = m
    · rw [g1 k h]; have := hc k h; omega
    · rw [g2 k h]; decide
  obtain ⟨-, h2, h3⟩ := fold_min Finset.univ g hg
  have hle : ∀ k, f k = m → (Finset.univ.fold IntOp.minsi 2147483647#32 g).toNat ≤ (c k).toNat := fun k h => g1 k h ▸ h2 k (Finset.mem_univ k)
  have hlt : (Finset.univ.fold IntOp.minsi 2147483647#32 g).toNat < 2 ^ 30 := (hle k₀ h₀).trans_lt (hc k₀ h₀)
  refine ⟨?_, hle⟩
  rcases h3 with h3 | ⟨k, -, h3⟩
  · rw [h3] at hlt; exact absurd hlt (by decide)
  · by_cases h : f k = m
    · exact ⟨k, h, h3.trans (g1 k h)⟩
    · rw [h3, g2 k h] at hlt; exact absurd hlt (by decide)

end Reduction

/-! ## A stable sort's first position -/

section Sorted
variable {N : ℕ}

/-- The first of a stable sort of positions in increasing order, the greater value first: the largest value's smallest position. -/
theorem sort_head (f : Fin N → EReal) (before : Fin N → Fin N → Bool) (hb : ∀ k k', before k k' = true ↔ f k' < f k) :
    ∀ l : List (Fin N), l.Pairwise (· < ·) → l ≠ [] →
      ∃ h t, stableSort before l = h :: t ∧ h ∈ l ∧ (∀ b ∈ l, f b ≤ f h) ∧ ∀ b ∈ l, f b = f h → h ≤ b
  | [], _, hne => absurd rfl hne
  | [a], _, _ => ⟨a, [], rfl, by simp, by simp, by simp⟩
  | a :: c :: l, hp, _ => by
    obtain ⟨ha, hp'⟩ := List.pairwise_cons.1 hp
    obtain ⟨h, t, e, hm, hle, hfirst⟩ := sort_head f before hb (c :: l) hp' (by simp)
    have e' : stableSort before (a :: c :: l) = insertBefore before a (h :: t) := congrArg (insertBefore before a) e
    by_cases hh : before h a = true
    · have hlt := (hb h a).1 hh
      refine ⟨h, insertBefore before a t, ?_, List.mem_cons_of_mem a hm, ?_, ?_⟩
      · rw [e']; exact if_pos hh
      · intro b hbm
        rcases List.mem_cons.1 hbm with rfl | hbm
        · exact hlt.le
        · exact hle b hbm
      · intro b hbm eb
        rcases List.mem_cons.1 hbm with rfl | hbm
        · exact absurd eb hlt.ne
        · exact hfirst b hbm eb
    · have hge : f h ≤ f a := not_lt.1 fun hlt => hh ((hb h a).2 hlt)
      refine ⟨a, h :: t, ?_, by simp, ?_, ?_⟩
      · rw [e']; exact if_neg hh
      · intro b hbm
        rcases List.mem_cons.1 hbm with rfl | hbm
        · exact le_rfl
        · exact (hle b hbm).trans hge
      · intro b hbm _
        rcases List.mem_cons.1 hbm with rfl | hbm
        · exact le_rfl
        · exact (ha b hbm).le

theorem sorted_first (f : Fin N → EReal) (before : Fin N → Fin N → Bool) (hb : ∀ k k', before k k' = true ↔ f k' < f k) (k₀ : Fin N) (h₀ : k₀.val = 0) :
    (∀ k, f k ≤ f (sortedFrom before k₀)) ∧ ∀ k, f k = f (sortedFrom before k₀) → sortedFrom before k₀ ≤ k := by
  have hne : List.finRange N ≠ [] := List.ne_nil_of_mem (List.mem_finRange k₀)
  obtain ⟨h, t, e, -, hle, hfirst⟩ := sort_head f before hb (List.finRange N) (List.pairwise_lt_finRange N) hne
  have hs : sortedFrom before k₀ = h := by
    unfold sortedFrom
    rw [List.get_eq_getElem]
    have e' : sortPositions N before = h :: t := e
    have : (k₀.cast (length_sortPositions N before).symm).val = 0 := h₀
    simp only [this, e', List.getElem_cons_zero]
  rw [hs]
  exact ⟨fun k => hle k (List.mem_finRange k), fun k => hfirst k (List.mem_finRange k)⟩

end Sorted

end Cert.Proof.Order

end
-- ==== Proof.Value.lean ====
/-
  What the kernel's three parts compute over the extended reals, lane by lane: each the largest logit of its own indices
  and the smallest index at which it is met; and so the merged result, and the reference's, are the same index.
-/
module

public import proofs.«01_k».proof.Proof.Order
public import proofs.«01_k».proof.Proof.Argmax
public import proofs.«01_k».proof.Proof.Merge
public import proofs.«01_k».proof.ReferenceIdeal

@[expose] public section

noncomputable section

namespace Cert.Proof

open Cert.KernelIdeal Cert.KernelIdeal.Gen
open Idealize.ShloMosaic Idealize.ShloMosaic.ValueIdx
open Cert.Proof.Order Cert.Proof.Scan

/-- Lane `l`'s logits, in index order. -/
def col (A : Vec Ideal S100000x128 .f32) (l : ℕ) : ℕ → EReal := fun n => A (cell n l)

/-! ## Reductions of a column -/

section Columns
variable {R : ℕ}

theorem lift_col (h : (⟨2, ![R, 128]⟩ : Shape).Reduces [0] ⟨1, ![128]⟩) (l : Fin 128) (k : Fin R) : h.lift (ix1 l) k = ix2 k l := by
  funext a
  match a with
  | ⟨0, _⟩ => rfl
  | ⟨1, _⟩ => rfl

theorem col_max (v : FVec Ideal ⟨2, ![R, 128]⟩ .f32) (h : (⟨2, ![R, 128]⟩ : Shape).Reduces [0] ⟨1, ![128]⟩) (hφ : FKind.Formats .f32)
    (hacc : (0xFF800000#32 : BitVec 32) = FKind.maximumf.neutral .f32 hφ) (l : Fin 128) :
    multiReduction .maximumf [0] ⟨1, ![128]⟩ v 0xFF800000#32 h hφ hacc (ix1 l) = Finset.univ.fold max ⊥ fun k : Fin R => v (ix2 k l) := by
  refine (Ideal.multiReduction_maximumf_single v _ h hφ hacc (ix1 l)).trans ?_
  rw [negInf]
  exact congrArg (Finset.fold max ⊥ · Finset.univ) (funext fun k => congrArg v (lift_col h l k))

theorem col_min (v : IVec ⟨2, ![R, 128]⟩ 32) (h : (⟨2, ![R, 128]⟩ : Shape).Reduces [0] ⟨1, ![128]⟩)
    (hacc : (2147483647#32 : BitVec 32) = IKind.minsi.neutral) (l : Fin 128) :
    multiReductionI .minsi [0] ⟨1, ![128]⟩ v 2147483647#32 h hacc (ix1 l) = Finset.univ.fold IntOp.minsi 2147483647#32 fun k : Fin R => v (ix2 k l) := by
  classical
  refine (multiReductionI_eq_fold .minsi v _ h hacc (ix1 l)).trans ?_
  refine (h.fold_filter_drop_single IntOp.minsi _ v (ix1 l)).trans ?_
  exact congrArg (Finset.fold IntOp.minsi _ · Finset.univ) (funext fun k => congrArg v (lift_col h l k))

end Columns

/-! ## One block of the TensorCore's rows -/

theorem blockMax (v : Vec Ideal S6096x128 .f32) (l : Fin 128) :
    k0_pay2 (F := Ideal) v (ix2 0 l) = Finset.univ.fold max ⊥ fun k : Fin 6096 => v (ix2 k l) := by
  unfold k0_pay2 k0_pay1
  refine (shapeCast_a_1a_apply _ _ _ _).trans ?_
  rw [shapeCast_self]
  exact col_max v _ _ _ l

theorem blockMin (i : grid0.Coords) (v : Vec Ideal S6096x128 .f32) (l : Fin 128) :
    k0_pay3 (F := Ideal) i v (ix2 0 l)
      = Finset.univ.fold IntOp.minsi 2147483647#32 fun k : Fin 6096 =>
          Scalar.select (FloatOps.cmpf (F := Ideal) (φ := .f32) .oeq (v (ix2 k l)) (k0_pay2 (F := Ideal) v (ix2 0 l)))
            (BitVec.ofNat 32 k.val + BitVec.ofNat 32 (i 0).val * 6096#32) 1073741824#32 := by
  unfold k0_pay3
  refine (shapeCast_a_1a_apply _ _ _ _).trans ?_
  refine (col_min _ _ _ l).trans ?_
  refine congrArg (Finset.fold IntOp.minsi _ · Finset.univ) (funext fun k => ?_)
  unfold k0_pay1
  rw [shapeCast_self]
  show Scalar.select (FloatOps.cmpf .oeq (v (ix2 k l)) (broadcastTo S6096x128 (k0_pay2 (F := Ideal) v) broadcasts_S1x128_S6096x128 (ix2 k l))) _ _ = _
  rw [broadcastTo_1b_ab_apply]
  show Scalar.select _ (BitVec.ofNat 32 (0 * 6096 + k.val) + _) _ = _
  rw [Nat.zero_mul, Nat.zero_add]
  rfl

theorem coords_val (n : Fin 8) : (cfg0.grid.coords (gp n.val) 0).val = n.val := by
  revert n; decide +kernel

theorem index_val (n k : ℕ) (hn : n < 8) (hk : k < 6096) :
    (BitVec.ofNat 32 k + BitVec.ofNat 32 n * 6096#32).toNat = 6096 * n + k := by
  rw [BitVec.toNat_add, BitVec.toNat_mul, BitVec.toNat_ofNat, BitVec.toNat_ofNat, BitVec.toNat_ofNat]
  omega

theorem block_best (A : Vec Ideal S100000x128 .f32) (l : Fin 128) (n : ℕ) (hn : n < 8) :
    Best (col A l.val) (fun i => 6096 * n ≤ i ∧ i < 6096 * (n + 1)) (k0_pay2 (F := Ideal) (blk A n) (ix2 0 l))
      (k0_pay3 (F := Ideal) (cfg0.grid.coords (gp n)) (blk A n) (ix2 0 l)).toNat := by
  set M := k0_pay2 (F := Ideal) (blk A n) (ix2 0 l) with hM
  have hx : ∀ k : Fin 6096, blk A n (ix2 k l) = col A l.val (6096 * n + k.val) := fun k => rfl
  have hMf : M = Finset.univ.fold max ⊥ fun k : Fin 6096 => blk A n (ix2 k l) := blockMax _ l
  obtain ⟨k₀, h₀⟩ := fold_max_met (by decide) fun k : Fin 6096 => blk A n (ix2 k l)
  rw [← hMf] at h₀
  have hle : ∀ k : Fin 6096, blk A n (ix2 k l) ≤ M := fun k => hMf ▸ fold_max_ge (fun k : Fin 6096 => blk A n (ix2 k l)) k
  have hc : (cfg0.grid.coords (gp n) 0).val = n := coords_val ⟨n, hn⟩
  have hi : ∀ k : Fin 6096, (BitVec.ofNat 32 k.val + BitVec.ofNat 32 (cfg0.grid.coords (gp n) 0).val * 6096#32).toNat = 6096 * n + k.val := by
    intro k; rw [hc]; exact index_val n k.val hn k.isLt
  obtain ⟨⟨k, hk, e⟩, hf⟩ := masked_min (fun k : Fin 6096 => blk A n (ix2 k l)) M
    (fun k => BitVec.ofNat 32 k.val + BitVec.ofNat 32 (cfg0.grid.coords (gp n) 0).val * 6096#32) k₀ h₀
    (fun k _ => by rw [hi]; have := k.isLt; omega)
  rw [← blockMin] at e hf
  refine ⟨?_, ?_, ?_, ?_⟩
  · rw [e, hi]; have := k.isLt; omega
  · rw [e, hi, ← hx]; exact hk
  · intro i h
    have := hle ⟨i - 6096 * n, by omega⟩
    rw [hx, show 6096 * n + (i - 6096 * n) = i by omega] at this
    exact this
  · intro i h ei
    have := hf ⟨i - 6096 * n, by omega⟩ (by rw [hx, show 6096 * n + (i - 6096 * n) = i by omega]; exact ei)
    rw [hi, show 6096 * n + (i - 6096 * n) = i by omega] at this
    exact this

/-! What the first block stores is its own maximum and index; a later block's replace the running ones when greater. -/

theorem stored_first (v : Vec Ideal S6096x128 .f32) : k0_pay4 v = k0_pay2 v := by
  unfold k0_pay4
  exact shapeCast_self _ _
theorem stored_first_index (i : grid0.Coords) (v : Vec Ideal S6096x128 .f32) : k0_pay5 i v = k0_pay3 i v := by
  unfold k0_pay5
  exact shapeCast_self _ _
theorem stored_later (v : Vec Ideal S6096x128 .f32) (a : Vec Ideal S1x128 .f32) (j : S1x128.Idx) :
    k0_pay8 v a a j = if a j < k0_pay2 v j then k0_pay2 v j else a j := by
  have e : k0_pay8 v a a = select (k0_pay6 v a) (k0_pay2 v) a := by
    unfold k0_pay8
    exact shapeCast_self _ _
  rw [e]
  exact select_gt _ _ _ _
theorem stored_later_index (i : grid0.Coords) (v : Vec Ideal S6096x128 .f32) (a : Vec Ideal S1x128 .f32) (b : Vec Ideal S1x128 .i32) (j : S1x128.Idx) :
    k0_pay7 i v a b j = if a j < k0_pay2 v j then k0_pay3 i v j else b j := by
  have e : k0_pay7 i v a b = select (k0_pay6 v a) (k0_pay3 i v) b := by
    unfold k0_pay7
    exact shapeCast_self _ _
  rw [e]
  exact select_gt _ _ _ _

theorem acc_best (A : Vec Ideal S100000x128 .f32) (l : Fin 128) (n : ℕ) (hn : n < 8) :
    Best (col A l.val) (fun i => i < 6096 * (n + 1)) ((acc A n).1 (ix2 0 l)) ((acc A n).2 (ix2 0 l)).toNat := by
  induction n with
  | zero =>
    have b := block_best A l 0 (by decide)
    have e : acc A 0 = (k0_pay4 (blk A 0), k0_pay5 (cfg0.grid.coords (gp 0)) (blk A 0)) := acc_first A (gp 0) rfl
    rw [e]
    dsimp only
    rw [stored_first, stored_first_index]
    exact b.congr fun i => by omega
  | succ n ih =>
    have a := ih (by omega)
    have b := block_best A l (n + 1) hn
    have h := a.pick b.le (fun _ => b) (fun i k hi hk => by omega)
    have e : acc A (n + 1) = (k0_pay8 (blk A (n + 1)) (acc A n).1 (acc A n).1,
        k0_pay7 (cfg0.grid.coords (gp (n + 1))) (blk A (n + 1)) (acc A n).1 (acc A n).2) := by rw [acc]
    rw [e]
    dsimp only
    rw [stored_later, stored_later_index, apply_ite BitVec.toNat]
    exact h.congr fun i => by omega

/-! ## A SparseCore worker's rows -/

/-- The indices worker `w` scans: its own 1600 and the last 32. -/
def own (w n : ℕ) : Prop := (base w ≤ n ∧ n < base w + 1600) ∨ (99968 ≤ n ∧ n < 100000)

theorem found_weak (A : Vec Ideal S100000x128 .f32) (l : ℕ) (w : ℕ) (hw : w < 32) :
    Weak (col A l) (own w) (found A w l).1 (found A w l).2.toNat := by
  have hb : base w + 1600 ≤ 99968 := by unfold base; omega
  have h1 := (Weak.start (col A l)).scan (base w) (fun r => A (cell (base w + r) l)) 1600 (by omega) (fun _ _ => rfl) (fun _ h => h.elim) 1600 le_rfl
  have h2 := h1.scan 99968 (fun r => A (cell (99968 + r) l)) 32 (by decide) (fun _ _ => rfl)
    (fun k hk => hk.elim (fun h => h.elim) fun h => by omega) 32 le_rfl
  exact h2.congr fun k => ⟨fun h => h.elim (fun h => .inl (h.elim (fun h => h.elim) id)) .inr, fun h => h.elim (fun h => .inl (.inr h)) .inr⟩

/-! ## The merge -/

/-- The workers' largest values, and the smallest index of those, as the merge computes them. -/
def topOf (sv : Vec Ideal S32x128 .f32) : FVec Ideal S1x128 .f32 :=
  shapeCast S1x128 (multiReduction .maximumf [0] S128 sv 0xFF800000#32 reduces_S32x128_S128 (.inl rfl) rfl) shapeCasts_S128_S1x128
def pickOf (sv : Vec Ideal S32x128 .f32) (si : Vec Ideal S32x128 .i32) : IVec S1x128 32 :=
  shapeCast S1x128 (multiReductionI .minsi [0] S128
    (select (cmpf .oeq sv (broadcastTo S32x128 (topOf sv) broadcasts_S1x128_S32x128)) si (broadcast S32x128 1073741824#32)) 2147483647#32 reduces_S32x128_S128 rfl)
    shapeCasts_S128_S1x128

theorem topOf_apply (sv : Vec Ideal S32x128 .f32) (l : Fin 128) : topOf sv (ix2 0 l) = Finset.univ.fold max ⊥ fun k : Fin 32 => sv (ix2 k l) :=
  (shapeCast_a_1a_apply _ _ _ _).trans (col_max sv _ _ _ l)

theorem pickOf_apply (sv : Vec Ideal S32x128 .f32) (si : Vec Ideal S32x128 .i32) (l : Fin 128) :
    pickOf sv si (ix2 0 l) = Finset.univ.fold IntOp.minsi 2147483647#32 fun k : Fin 32 =>
      Scalar.select (FloatOps.cmpf (F := Ideal) (φ := .f32) .oeq (sv (ix2 k l)) (Finset.univ.fold max ⊥ fun k : Fin 32 => sv (ix2 k l) : EReal)) (si (ix2 k l)) 1073741824#32 := by
  refine (shapeCast_a_1a_apply _ _ _ _).trans ?_
  refine (col_min _ _ _ l).trans ?_
  refine congrArg (Finset.fold IntOp.minsi _ · Finset.univ) (funext fun k => ?_)
  rw [← topOf_apply]
  show Scalar.select (FloatOps.cmpf .oeq (sv (ix2 k l)) (broadcastTo S32x128 (topOf sv) broadcasts_S1x128_S32x128 (ix2 k l))) _ _ = _
  rw [broadcastTo_1b_ab_apply]
  rfl

theorem merged_eq (sv : Vec Ideal S32x128 .f32) (si : Vec Ideal S32x128 .i32) (tv : Vec Ideal S1x128 .f32) (ti : Vec Ideal S1x128 .i32) :
    merged sv si tv ti = select (cmpf .ogt (topOf sv) tv) (pickOf sv si) ti := by
  unfold merged k2_pay1 pickOf topOf
  simp only [shapeCast_self]

theorem merged_apply (sv : Vec Ideal S32x128 .f32) (si : Vec Ideal S32x128 .i32) (tv : Vec Ideal S1x128 .f32) (ti : Vec Ideal S1x128 .i32) (l : Fin 128) :
    merged sv si tv ti (ix2 0 l)
      = if tv (ix2 0 l) < (Finset.univ.fold max ⊥ fun k : Fin 32 => sv (ix2 k l) : EReal)
        then Finset.univ.fold IntOp.minsi 2147483647#32 fun k : Fin 32 =>
          Scalar.select (FloatOps.cmpf (F := Ideal) (φ := .f32) .oeq (sv (ix2 k l)) (Finset.univ.fold max ⊥ fun k : Fin 32 => sv (ix2 k l) : EReal)) (si (ix2 k l)) 1073741824#32
        else ti (ix2 0 l) := by
  rw [merged_eq, ← pickOf_apply, ← topOf_apply]
  exact select_gt _ _ _ _

theorem merged_best (A : Vec Ideal S100000x128 .f32) (l : Fin 128) :
    Best (col A l.val) (fun n => n < 100000)
      (if TVal A (ix2 0 l) < (Finset.univ.fold max ⊥ fun k : Fin 32 => SVal A (ix2 k l) : EReal)
        then (Finset.univ.fold max ⊥ fun k : Fin 32 => SVal A (ix2 k l) : EReal) else TVal A (ix2 0 l))
      (merged (SVal A) (SIdx A) (TVal A) (TIdx A) (ix2 0 l)).toNat := by
  rw [merged_apply, apply_ite BitVec.toNat]
  set M : EReal := Finset.univ.fold max ⊥ fun k : Fin 32 => SVal A (ix2 k l) with hM
  have hv : ∀ k : Fin 32, SVal A (ix2 k l) = (found A k.val l.val).1 := fun _ => rfl
  have hi : ∀ k : Fin 32, SIdx A (ix2 k l) = (found A k.val l.val).2 := fun _ => rfl
  have hle : ∀ k : Fin 32, (found A k.val l.val).1 ≤ M := fun k => fold_max_ge (fun k : Fin 32 => SVal A (ix2 k l)) k
  have cover : ∀ n, (48768 ≤ n ∧ n < 100000) → ∃ k : Fin 32, own k.val n := by
    intro n hn
    by_cases h : n < 99968
    · refine ⟨⟨(n - 48768) / 1600, by omega⟩, .inl ?_⟩
      unfold base; dsimp only; omega
    · exact ⟨0, .inr (by omega)⟩
  have range : ∀ (k : Fin 32) n, own k.val n → 48768 ≤ n ∧ n < 100000 := by
    intro k n h
    have := k.isLt
    unfold own base at h; omega
  have hall : ∀ n, (48768 ≤ n ∧ n < 100000) → col A l.val n ≤ M := by
    intro n hn
    obtain ⟨k, hk⟩ := cover n hn
    exact ((found_weak A l.val k.val k.isLt).le n hk).trans (hle k)
  have a := acc_best A l 7 (by decide)
  refine (a.pick (T := fun n => 48768 ≤ n ∧ n < 100000) (b := M) hall ?_ (fun i k hi hk => by omega)).congr fun n => by omega
  intro hgt
  have hM0 : M ≠ ⊥ := fun h => absurd (h ▸ hgt) not_lt_bot
  have best : ∀ k : Fin 32, (found A k.val l.val).1 = M → Best (col A l.val) (own k.val) M (found A k.val l.val).2.toNat := by
    intro k hk
    have := (found_weak A l.val k.val k.isLt).best (hk ▸ hM0)
    rwa [hk] at this
  obtain ⟨k₀, h₀⟩ := fold_max_met (by decide) fun k : Fin 32 => SVal A (ix2 k l)
  obtain ⟨⟨k, hk, e⟩, hf⟩ := masked_min (fun k : Fin 32 => SVal A (ix2 k l)) M (fun k => SIdx A (ix2 k l)) k₀ h₀
    (fun k hk => by
      have := range k _ (best k hk).mem
      rw [hi]; omega)
  have bk := best k hk
  refine ⟨?_, ?_, hall, ?_⟩
  · rw [e]; exact range k _ bk.mem
  · rw [e]; exact bk.val
  · intro n hn en
    obtain ⟨j, hj⟩ := cover n hn
    have hjM : (found A j.val l.val).1 = M := le_antisymm (hle j) (en ▸ (found_weak A l.val j.val j.isLt).le n hj)
    exact (hf j hjM).trans ((best j hjM).first n hj en)

end Cert.Proof

end
-- ==== Proof.TopK.lean ====
/-
  The reference's index: the first element of a stable sort of a row in decreasing order is the smallest index at which the
  row's largest value is met.
-/
module

public import proofs.«01_k».proof.Proof.Order
public import Idealize.ShloMosaic.Lib.Pipeline.Value

@[expose] public section

noncomputable section

namespace Cert.Proof

open Idealize.ShloMosaic Idealize.ShloMosaic.ValueIdx Cert.Proof.Order

variable {M N : ℕ}

theorem along_row (r : Fin M) (z k : Fin N) : (ix2 r z : (⟨2, ![M, N]⟩ : Shape).Idx).along 1 k = ix2 r k := by
  funext a
  fin_cases a <;> rfl

/-- The one index kept of row `r`. -/
theorem topK_first (gt : EReal → EReal → BitVec 1) (x : (⟨2, ![M, N]⟩ : Shape).Idx → EReal)
    (h : (⟨2, ![M, N]⟩ : Shape).Slices (fun _ => 0) ⟨2, ![M, 1]⟩) (r : Fin M) (z : Fin N) (hz : z.val = 0) :
    (Host.topK ⟨2, ![M, 1]⟩ 1 gt x h).2 (ix2 r 0)
      = BitVec.ofNat 32 (sortedFrom (fun k k' => gt (x (ix2 r k)) (x (ix2 r k')) == 1#1) z).val := by
  unfold Host.topK
  dsimp only
  rw [extractStridedSlice_apply (fun _ => 0) _ h (ix2 r 0) (ix2 r z) (by intro a; fin_cases a <;> simp [ix2, hz])]
  unfold Host.sort2
  rw [dif_pos (by exact Nat.one_lt_two : 1 < (⟨2, ![M, N]⟩ : Shape).rank)]
  dsimp only
  rw [dif_pos (by exact Nat.one_lt_two : 1 < (⟨2, ![M, N]⟩ : Shape).rank)]
  have e : (fun k k' : Fin N => gt (x ((ix2 r z : (⟨2, ![M, N]⟩ : Shape).Idx).along 1 k)) (x ((ix2 r z : (⟨2, ![M, N]⟩ : Shape).Idx).along 1 k')) == 1#1)
      = fun k k' => gt (x (ix2 r k)) (x (ix2 r k')) == 1#1 := by
    funext k k'
    rw [along_row, along_row]
  rw [← e]
  rfl

/-- A column `f` that agrees with row `r` at every index: the index kept is its smallest largest one. -/
theorem topK_best (x : FVec Ideal (⟨2, ![M, N]⟩ : Shape) .f32)
    (h : (⟨2, ![M, N]⟩ : Shape).Slices (fun _ => 0) ⟨2, ![M, 1]⟩) (r : Fin M) (hN : 0 < N) (f : ℕ → EReal)
    (hf : ∀ k : Fin N, f k.val = x (ix2 r k)) :
    ∃ (k : Fin N) (v : EReal), Best f (fun n => n < N) v k.val
      ∧ (Host.topK ⟨2, ![M, 1]⟩ 1 (FloatOps.cmpfTotal (F := Ideal) (φ := .f32) .gt) x h).2 (ix2 r 0) = BitVec.ofNat 32 k.val := by
  have hb : ∀ k k' : Fin N, ((FloatOps.cmpfTotal (F := Ideal) (φ := .f32) .gt (x (ix2 r k)) (x (ix2 r k')) == 1#1) = true) ↔ f k'.val < f k.val := by
    intro k k'
    rw [beq_iff_eq, hf, hf]
    exact gt_eq_one _ _
  obtain ⟨hle, hfirst⟩ := sorted_first (fun k : Fin N => f k.val) _ hb ⟨0, hN⟩ rfl
  exact ⟨_, _, ⟨Fin.isLt _, rfl, fun n hn => hle ⟨n, hn⟩, fun n hn e => hfirst ⟨n, hn⟩ e⟩, topK_first _ x h r ⟨0, hN⟩ rfl⟩

end Cert.Proof

end
-- ==== Proof.Agree.lean ====
/-
  The kernel's result is the reference's: at every row of the batch both are the smallest index of the largest logit.
-/
module

public import proofs.«01_k».proof.Proof.Run
public import proofs.«01_k».proof.Proof.Value
public import proofs.«01_k».proof.Proof.TopK

@[expose] public section

noncomputable section

namespace Cert.Proof

open Cert.KernelIdeal Cert.KernelIdeal.Gen
open Idealize.ShloMosaic Idealize.ShloMosaic.ValueIdx
open Cert.Proof.Order Cert.Proof.Scan

/-- Column `l` of the transposed logits is row `l` of the logits. -/
theorem col_row (x : Vec Ideal S128x100000 .f32) (l : Fin 128) (k : Fin 100000) : col (AX x) l.val k.val = x (ix2 l k) := by
  unfold col
  rw [cell_val]
  exact transpose_ix2_apply x _ k l

/-- The result column is the merged row. -/
theorem column_row (v : Vec Ideal S1x128 .i32) (l : Fin 128) : shapeCast S128x1 v shapeCasts_S1x128_S128x1 (ix2 l 0) = v (ix2 0 l) := by
  refine shapeCast_apply v _ _ _ ?_
  rw [Shape.rowMajor_val_two, Shape.rowMajor_val_two]
  simp [ix2]

theorem merged_topK (x : Vec Ideal S128x100000 .f32) (h : (S128x100000 : Shape).Slices (fun _ => 0) S128x1) :
    shapeCast S128x1 (merged (SVal (AX x)) (SIdx (AX x)) (TVal (AX x)) (TIdx (AX x))) shapeCasts_S1x128_S128x1
      = (Host.topK S128x1 1 (FloatOps.cmpfTotal (F := Ideal) (φ := .f32) .gt) x h).2 := by
  funext j
  obtain ⟨l, z, rfl⟩ : ∃ (l : Fin 128) (z : Fin 1), j = ix2 l z := ⟨j 0, j 1, eq_ix2 j⟩
  obtain rfl : z = 0 := Subsingleton.elim _ _
  obtain ⟨k, v, hk, e⟩ := topK_best x h l (by omega) (col (AX x) l.val) (col_row x l)
  have hm := (merged_best (AX x) l).unique hk
  rw [column_row]
  refine BitVec.eq_of_toNat_eq (hm.trans ?_)
  refine Eq.trans ?_ (congrArg BitVec.toNat e).symm
  rw [BitVec.toNat_ofNat]
  exact (Nat.mod_eq_of_lt (by omega)).symm

end Cert.Proof

end
-- ==== Proof.Claims.lean ====
/-
  The claims: the frames, each the program's run at its own float values, and the kernel's results, which are the reference's.
-/
module

public import proofs.«01_k».proof.Defs
public import proofs.«01_k».proof.Proof.Agree
public import proofs.«01_k».proof.Proof.Gen.Kernel
public import proofs.«01_k».proof.Proof.Gen.ReferenceIdeal.Run
public import Idealize.ShloMosaic.Lib.Quiescent

@[expose] public section

noncomputable section

namespace Cert.Proof

open Idealize.ShloMosaic Idealize.SL.Sem
open Idealize.ShloMosaic.TcCoe

/-- The two printed body tables are the same programs, body by body. -/
theorem bodies_eq : Cert.Kernel.defs₀ (F := Bits) = Cert.KernelIdeal.defs₀ (F := Bits) := by
  funext p ℓ a
  rcases p with _ | c | ⟨c, s⟩
  · fin_cases ℓ <;> rfl
  · fin_cases ℓ <;> rfl
  · fin_cases ℓ <;> rfl

theorem defs_eq : Cert.Kernel.defs (F := Bits) = Cert.KernelIdeal.defs (F := Bits) :=
  congrArg (fun b => (Cert.KernelIdeal.sc (F := Bits)).defs (Pipeline.defs Cert.KernelIdeal.pcfgs b)) bodies_eq

/-- The kernel as printed: it ends, its argument unchanged, its semaphores at zero. -/
theorem frame_kernel : Cert.quiescent_Kernel := fun m ρ _ => by
  have h : θ_run (Cert.Kernel.defs (F := Bits)) (Cert.Kernel.threads (F := Bits)) ⟨m, fun _ => 0, ρ⟩ (QC m) := by
    rw [defs_eq]; exact run_main (F := Bits) m ρ
  exact (θ_run Cert.Kernel.defs _ _).mono (fun _ h => ⟨fun c => (h.1 c).1, h.2⟩) h

/-- The same of the kernel over the extended reals. -/
theorem frame_ideal : Cert.quiescent_KernelIdeal := fun m ρ _ =>
  (θ_run Cert.KernelIdeal.defs _ _).mono (fun _ h => ⟨fun c => (h.1 c).1, h.2⟩) (run_main (F := Ideal) m ρ)

/-- The same of the reference. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Over the extended reals, on the same logits: the kernel's result is the reference's. -/
theorem algebraic : Cert.algebraic_KernelIdeal_ReferenceIdeal := fun m g m' g' _ hagree =>
  ⟨fun c => Out m c, (θ_run Cert.KernelIdeal.defs _ _).mono (fun _ h c => ⟨(h.1 c).2, (h.1 c).1⟩) (run_main (F := Ideal) m g),
    (θ_run Cert.ReferenceIdeal.defs _ _).mono
      (fun _ h c => ⟨(h c).1.trans ((congrArg (fun x => (Host.topK Cert.ReferenceIdeal.S128x1 1 (FloatOps.cmpfTotal (F := Ideal) (φ := .f32) .gt) x
          Cert.ReferenceIdeal.Facts₀.sliceFits_S128x100000_S128x1).2) (hagree c)).trans (merged_topK (m (a0Loc c)) _).symm), (h c).2⟩)
      (Cert.ReferenceIdeal.Value.run (F := Ideal) m' g')⟩

end Cert.Proof

end
-- ==== Proof.lean ====
/-
  The claims of `Cert.Claim`, each from `Proof/Claims.lean`.
-/
module

public import proofs.«01_k».proof.Defs
public import proofs.«01_k».proof.Proof.Claims
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run

@[expose] public section

noncomputable section

namespace Cert.Proof

theorem claim : Cert.Claim :=
  ⟨Cert.Kernel.Gen.facts, Cert.KernelIdeal.Gen.facts, Cert.ReferenceIdeal.Gen.facts, frame_kernel, frame_ideal, frame_reference, trivial, algebraic⟩

end Cert.Proof

end
